-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S7424x2048x3 : Shape := ⟨3, ![7424, 2048, 3]⟩
abbrev S7424 : Shape := ⟨1, ![7424]⟩
abbrev S7424x64 : Shape := ⟨2, ![7424, 64]⟩
abbrev S256x8192 : Shape := ⟨2, ![256, 8192]⟩
abbrev S3x7424x2048 : Shape := ⟨3, ![3, 7424, 2048]⟩
abbrev S64x7424 : Shape := ⟨2, ![64, 7424]⟩
abbrev S1x7424 : Shape := ⟨2, ![1, 7424]⟩
abbrev S256x7424 : Shape := ⟨2, ![256, 7424]⟩
abbrev S3x256x2048 : Shape := ⟨3, ![3, 256, 2048]⟩
abbrev S64x256 : Shape := ⟨2, ![64, 256]⟩
abbrev S1x256 : Shape := ⟨2, ![1, 256]⟩
abbrev S256x256 : Shape := ⟨2, ![256, 256]⟩
abbrev S16x512x256 : Shape := ⟨3, ![16, 512, 256]⟩
abbrev S8x128 : Shape := ⟨2, ![8, 128]⟩
abbrev S256x128 : Shape := ⟨2, ![256, 128]⟩
abbrev S256x128x1 : Shape := ⟨3, ![256, 128, 1]⟩
abbrev S128x256 : Shape := ⟨2, ![128, 256]⟩
abbrev S32x256 : Shape := ⟨2, ![32, 256]⟩
abbrev S1x32x256 : Shape := ⟨3, ![1, 32, 256]⟩
abbrev S1x32x128 : Shape := ⟨3, ![1, 32, 128]⟩
abbrev S32x128 : Shape := ⟨2, ![32, 128]⟩
abbrev S16x128 : Shape := ⟨2, ![16, 128]⟩
abbrev S16x128x1 : Shape := ⟨3, ![16, 128, 1]⟩
abbrev S8192x256 : Shape := ⟨2, ![8192, 256]⟩

abbrev nBuf : Space → Nat
  | .hbm => 9
  | .vmem => 11
  | .smem => 0
  | _ => 0

abbrev bufTy : (tb : Table) → Fin (tcTables nBuf tb) → BufTy
  | .hbm, ⟨0, _⟩ => ⟨S256x1x8192, .bf16⟩
  | .hbm, ⟨1, _⟩ => ⟨S7424x2048x3, .i8⟩
  | .hbm, ⟨2, _⟩ => ⟨S7424, .f32⟩
  | .hbm, ⟨3, _⟩ => ⟨S7424x64, .f32⟩
  | .hbm, ⟨4, _⟩ => ⟨S256x8192, .bf16⟩
  | .hbm, ⟨5, _⟩ => ⟨S3x7424x2048, .i8⟩
  | .hbm, ⟨6, _⟩ => ⟨S64x7424, .f32⟩
  | .hbm, ⟨7, _⟩ => ⟨S1x7424, .f32⟩
  | .hbm, ⟨8, _⟩ => ⟨S256x7424, .bf16⟩
  | .local _ .vmem, ⟨0, _⟩ => ⟨S256x8192, .bf16⟩
  | .local _ .vmem, ⟨1, _⟩ => ⟨S3x256x2048, .i8⟩
  | .local _ .vmem, ⟨2, _⟩ => ⟨S3x256x2048, .i8⟩
  | .local _ .vmem, ⟨3, _⟩ => ⟨S64x256, .f32⟩
  | .local _ .vmem, ⟨4, _⟩ => ⟨S64x256, .f32⟩
  | .local _ .vmem, ⟨5, _⟩ => ⟨S1x256, .f32⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .vmem, ⟨9, _⟩ => ⟨S16x512x256, .bf16⟩
  | .local _ .vmem, ⟨10, _⟩ => ⟨S256x8192, .bf16⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x256x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x1x8192 : Shape := ⟨3, ![256, 1, 8192]⟩
abbrev S7424x2048x3 : Shape := ⟨3, ![7424, 2048, 3]⟩
abbrev S7424 : Shape := ⟨1, ![7424]⟩
abbrev S7424x64 : Shape := ⟨2, ![7424, 64]⟩
abbrev S256x2048x4 : Shape := ⟨3, ![256, 2048, 4]⟩
abbrev S256x4x2048 : Shape := ⟨3, ![256, 4, 2048]⟩
abbrev S_ : Shape := ⟨0, ![]⟩
abbrev S7424x64x32 : Shape := ⟨3, ![7424, 64, 32]⟩
abbrev S7424x2048 : Shape := ⟨2, ![7424, 2048]⟩
abbrev S7424x2048x1 : Shape := ⟨3, ![7424, 2048, 1]⟩
abbrev S7424x1x2048 : Shape := ⟨3, ![7424, 1, 2048]⟩
abbrev S7424x4x2048 : Shape := ⟨3, ![7424, 4, 2048]⟩
abbrev S256x7424 : Shape := ⟨2, ![256, 7424]⟩
abbrev S1x7424 : Shape := ⟨2, ![1, 7424]⟩

abbrev nBuf : Space → Nat
  | .hbm => 187
  | .vmem => 0
  | .smem => 0
  | _ => 0

abbrev hbmTy0_0 (i : Nat) : BufTy := match i % 128 with
  | 0 => ⟨S256x1x8192, .bf16⟩
  | 1 => ⟨S7424x2048x3, .i8⟩
  | 2 => ⟨S7424, .f32⟩
  | 3 => ⟨S7424x64, .f32⟩
  | 4 => ⟨S256x2048x4, .bf16⟩
  | 5 => ⟨S256x4x2048, .bf16⟩
  | 6 => ⟨S_, .f32⟩
  | 7 => ⟨S7424x64, .f32⟩
  | 8 => ⟨S7424x64, .f32⟩
  | 9 => ⟨S7424x64, .bf16⟩
  | 10 => ⟨S7424x64x32, .bf16⟩
  | 11 => ⟨S7424x2048, .bf16⟩
  | 12 => ⟨S7424x2048x3, .i32⟩
  | 13 => ⟨S7424x2048x1, .i32⟩
  | 14 => ⟨S7424x2048, .i32⟩
  | 15 => ⟨S7424x2048x1, .i32⟩
  | 16 => ⟨S7424x2048, .i32⟩
  | 17 => ⟨S7424x2048x1, .i32⟩
  | 18 => ⟨S7424x2048, .i32⟩
  | 19 => ⟨S_, .i32⟩
  | 20 => ⟨S7424x2048, .i32⟩
  | 21 => ⟨S7424x2048, .i32⟩
  | 22 => ⟨S_, .i32⟩
  | 23 => ⟨S7424x2048, .i32⟩
  | 24 => ⟨S7424x2048, .i32⟩
  | 25 => ⟨S_, .i32⟩
  | 26 => ⟨S7424x2048, .i32⟩
  | 27 => ⟨S7424x2048, .i32⟩
  | 28 => ⟨S_, .i32⟩
  | 29 => ⟨S7424x2048, .i32⟩
  | 30 => ⟨S7424x2048, .i32⟩
  | 31 => ⟨S7424x2048, .i32⟩
  | 32 => ⟨S_, .i32⟩
  | 33 => ⟨S7424x2048, .i32⟩
  | 34 => ⟨S7424x2048, .i32⟩
  | 35 => ⟨S_, .i32⟩
  | 36 => ⟨S7424x2048, .i32⟩
  | 37 => ⟨S7424x2048, .i32⟩
  | 38 => ⟨S_, .i32⟩
  | 39 => ⟨S7424x2048, .i32⟩
  | 40 => ⟨S7424x2048, .i32⟩
  | 41 => ⟨S7424x2048, .i32⟩
  | 42 => ⟨S_, .i32⟩
  | 43 => ⟨S7424x2048, .i32⟩
  | 44 => ⟨S7424x2048, .i32⟩
  | 45 => ⟨S_, .i32⟩
  | 46 => ⟨S7424x2048, .i32⟩
  | 47 => ⟨S7424x2048, .i32⟩
  | 48 => ⟨S_, .i32⟩
  | 49 => ⟨S7424x2048, .i32⟩
  | 50 => ⟨S7424x2048, .i32⟩
  | 51 => ⟨S_, .i32⟩
  | 52 => ⟨S7424x2048, .i32⟩
  | 53 => ⟨S7424x2048, .i32⟩
  | 54 => ⟨S_, .i32⟩
  | 55 => ⟨S7424x2048, .i32⟩
  | 56 => ⟨S7424x2048, .i32⟩
  | 57 => ⟨S_, .i32⟩
  | 58 => ⟨S7424x2048, .i32⟩
  | 59 => ⟨S7424x2048, .i1⟩
  | 60 => ⟨S_, .i32⟩
  | 61 => ⟨S7424x2048, .i32⟩
  | 62 => ⟨S7424x2048, .i32⟩
  | 63 => ⟨S_, .i32⟩
  | 64 => ⟨S7424x2048, .i32⟩
  | 65 => ⟨S7424x2048, .i32⟩
  | 66 => ⟨S_, .i32⟩
  | 67 => ⟨S7424x2048, .i32⟩
  | 68 => ⟨S7424x2048, .i32⟩
  | 69 => ⟨S7424x2048, .i32⟩
  | 70 => ⟨S7424x2048, .i32⟩
  | 71 => ⟨S_, .i32⟩
  | 72 => ⟨S7424x2048, .i32⟩
  | 73 => ⟨S7424x2048, .i1⟩
  | 74 => ⟨S7424x2048, .i32⟩
  | 75 => ⟨S7424x2048, .i32⟩
  | 76 => ⟨S7424x2048, .bf16⟩
  | 77 => ⟨S7424x2048, .bf16⟩
  | 78 => ⟨S_, .i32⟩
  | 79 => ⟨S7424x2048, .i32⟩
  | 80 => ⟨S7424x2048, .i32⟩
  | 81 => ⟨S_, .i32⟩
  | 82 => ⟨S7424x2048, .i32⟩
  | 83 => ⟨S7424x2048, .i32⟩
  | 84 => ⟨S_, .i32⟩
  | 85 => ⟨S7424x2048, .i32⟩
  | 86 => ⟨S7424x2048, .i32⟩
  | 87 => ⟨S_, .i32⟩
  | 88 => ⟨S7424x2048, .i32⟩
  | 89 => ⟨S7424x2048, .i32⟩
  | 90 => ⟨S_, .i32⟩
  | 91 => ⟨S7424x2048, .i32⟩
  | 92 => ⟨S7424x2048, .i1⟩
  | 93 => ⟨S_, .i32⟩
  | 94 => ⟨S7424x2048, .i32⟩
  | 95 => ⟨S7424x2048, .i32⟩
  | 96 => ⟨S_, .i32⟩
  | 97 => ⟨S7424x2048, .i32⟩
  | 98 => ⟨S7424x2048, .i32⟩
  | 99 => ⟨S_, .i32⟩
  | 100 => ⟨S7424x2048, .i32⟩
  | 101 => ⟨S7424x2048, .i32⟩
  | 102 => ⟨S7424x2048, .i32⟩
  | 103 => ⟨S7424x2048, .i32⟩
  | 104 => ⟨S_, .i32⟩
  | 105 => ⟨S7424x2048, .i32⟩
  | 106 => ⟨S7424x2048, .i1⟩
  | 107 => ⟨S7424x2048, .i32⟩
  | 108 => ⟨S7424x2048, .i32⟩
  | 109 => ⟨S7424x2048, .bf16⟩
  | 110 => ⟨S7424x2048, .bf16⟩
  | 111 => ⟨S_, .i32⟩
  | 112 => ⟨S7424x2048, .i32⟩
  | 113 => ⟨S7424x2048, .i32⟩
  | 114 => ⟨S_, .i32⟩
  | 115 => ⟨S7424x2048, .i32⟩
  | 116 => ⟨S7424x2048, .i32⟩
  | 117 => ⟨S_, .i32⟩
  | 118 => ⟨S7424x2048, .i32⟩
  | 119 => ⟨S7424x2048, .i32⟩
  | 120 => ⟨S_, .i32⟩
  | 121 => ⟨S7424x2048, .i32⟩
  | 122 => ⟨S7424x2048, .i32⟩
  | 123 => ⟨S_, .i32⟩
  | 124 => ⟨S7424x2048, .i32⟩
  | 125 => ⟨S7424x2048, .i1⟩
  | 126 => ⟨S_, .i32⟩
  | 127 => ⟨S7424x2048, .i32⟩
  | _ => ⟨S256x1x8192, .bf16⟩

abbrev hbmTy0_1 (i : Nat) : BufTy := match i % 128 with
  | 0 => ⟨S7424x2048, .i32⟩
  | 1 => ⟨S_, .i32⟩
  | 2 => ⟨S7424x2048, .i32⟩
  | 3 => ⟨S7424x2048, .i32⟩
  | 4 => ⟨S_, .i32⟩
  | 5 => ⟨S7424x2048, .i32⟩
  | 6 => ⟨S7424x2048, .i32⟩
  | 7 => ⟨S7424x2048, .i32⟩
  | 8 => ⟨S7424x2048, .i32⟩
  | 9 => ⟨S_, .i32⟩
  | 10 => ⟨S7424x2048, .i32⟩
  | 11 => ⟨S7424x2048, .i1⟩
  | 12 => ⟨S7424x2048, .i32⟩
  | 13 => ⟨S7424x2048, .i32⟩
  | 14 => ⟨S7424x2048, .bf16⟩
  | 15 => ⟨S7424x2048, .bf16⟩
  | 16 => ⟨S_, .i32⟩
  | 17 => ⟨S7424x2048, .i32⟩
  | 18 => ⟨S7424x2048, .i32⟩
  | 19 => ⟨S_, .i32⟩
  | 20 => ⟨S7424x2048, .i32⟩
  | 21 => ⟨S7424x2048, .i32⟩
  | 22 => ⟨S_, .i32⟩
  | 23 => ⟨S7424x2048, .i32⟩
  | 24 => ⟨S7424x2048, .i32⟩
  | 25 => ⟨S_, .i32⟩
  | 26 => ⟨S7424x2048, .i32⟩
  | 27 => ⟨S7424x2048, .i32⟩
  | 28 => ⟨S_, .i32⟩
  | 29 => ⟨S7424x2048, .i32⟩
  | 30 => ⟨S7424x2048, .i1⟩
  | 31 => ⟨S_, .i32⟩
  | 32 => ⟨S7424x2048, .i32⟩
  | 33 => ⟨S7424x2048, .i32⟩
  | 34 => ⟨S_, .i32⟩
  | 35 => ⟨S7424x2048, .i32⟩
  | 36 => ⟨S7424x2048, .i32⟩
  | 37 => ⟨S_, .i32⟩
  | 38 => ⟨S7424x2048, .i32⟩
  | 39 => ⟨S7424x2048, .i32⟩
  | 40 => ⟨S7424x2048, .i32⟩
  | 41 => ⟨S7424x2048, .i32⟩
  | 42 => ⟨S_, .i32⟩
  | 43 => ⟨S7424x2048, .i32⟩
  | 44 => ⟨S7424x2048, .i1⟩
  | 45 => ⟨S7424x2048, .i32⟩
  | 46 => ⟨S7424x2048, .i32⟩
  | 47 => ⟨S7424x2048, .bf16⟩
  | 48 => ⟨S7424x2048, .bf16⟩
  | 49 => ⟨S7424x1x2048, .bf16⟩
  | 50 => ⟨S7424x1x2048, .bf16⟩
  | 51 => ⟨S7424x1x2048, .bf16⟩
  | 52 => ⟨S7424x1x2048, .bf16⟩
  | 53 => ⟨S7424x4x2048, .bf16⟩
  | 54 => ⟨S256x7424, .f32⟩
  | 55 => ⟨S1x7424, .f32⟩
  | 56 => ⟨S256x7424, .f32⟩
  | 57 => ⟨S256x7424, .f32⟩
  | 58 => ⟨S256x7424, .bf16⟩
  | _ => ⟨S256x1x8192, .bf16⟩

abbrev hbmTy (i : Nat) : BufTy := match i / 128 with
  | 0 => hbmTy0_0 i
  | 1 => hbmTy0_1 i
  | _ => ⟨S256x1x8192, .bf16⟩

abbrev bufTy : (tb : Table) → Fin (tcTables nBuf tb) → BufTy
  | .hbm, ⟨i, _⟩ => hbmTy i
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_c_12 : Ref sig .tc := ⟨.hbm, 60, rfl⟩
abbrev main_v42 : Ref sig .tc := ⟨.hbm, 61, rfl⟩
abbrev main_v43 : Ref sig .tc := ⟨.hbm, 62, rfl⟩
abbrev main_c_13 : Ref sig .tc := ⟨.hbm, 63, rfl⟩
abbrev main_v44 : Ref sig .tc := ⟨.hbm, 64, rfl⟩
abbrev main_v45 : Ref sig .tc := ⟨.hbm, 65, rfl⟩
abbrev main_c_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_c_17 : Ref sig .tc := ⟨.hbm, 81, rfl⟩
abbrev main_v58 : Ref sig .tc := ⟨.hbm, 82, rfl⟩
abbrev main_v59 : Ref sig .tc := ⟨.hbm, 83, rfl⟩
abbrev main_c_18 : Ref sig .tc := ⟨.hbm, 84, rfl⟩
abbrev main_v60 : Ref sig .tc := ⟨.hbm, 85, rfl⟩
abbrev main_v61 : Ref sig .tc := ⟨.hbm, 86, rfl⟩
abbrev main_c_19 : Ref sig .tc := ⟨.hbm, 87, rfl⟩
abbrev main_v62 : Ref sig .tc := ⟨.hbm, 88, rfl⟩
abbrev main_v63 : Ref sig .tc := ⟨.hbm, 89, rfl⟩
abbrev main_c_20 : Ref sig .tc := ⟨.hbm, 90, rfl⟩
abbrev main_v64 : Ref sig .tc := ⟨.hbm, 91, rfl⟩
abbrev main_v65 : Ref sig .tc := ⟨.hbm, 92, rfl⟩
abbrev main_c_21 : Ref sig .tc := ⟨.hbm, 93, rfl⟩
abbrev main_v66 : Ref sig .tc := ⟨.hbm, 94, rfl⟩
abbrev main_v67 : Ref sig .tc := ⟨.hbm, 95, rfl⟩
abbrev main_c_22 : Ref sig .tc := ⟨.hbm, 96, rfl⟩
abbrev main_v68 : Ref sig .tc := ⟨.hbm, 97, rfl⟩
abbrev main_v69 : Ref sig .tc := ⟨.hbm, 98, rfl⟩
abbrev main_c_23 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_24 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_25 : Ref sig .tc := ⟨.hbm, 111, rfl⟩
abbrev main_v80 : Ref sig .tc := ⟨.hbm, 112, rfl⟩
abbrev main_v81 : Ref sig .tc := ⟨.hbm, 113, rfl⟩
abbrev main_c_26 : Ref sig .tc := ⟨.hbm, 114, rfl⟩
abbrev main_v82 : Ref sig .tc := ⟨.hbm, 115, rfl⟩
abbrev main_v83 : Ref sig .tc := ⟨.hbm, 116, rfl⟩
abbrev main_c_27 : Ref sig .tc := ⟨.hbm, 117, rfl⟩
abbrev main_v84 : Ref sig .tc := ⟨.hbm, 118, rfl⟩
abbrev main_v85 : Ref sig .tc := ⟨.hbm, 119, rfl⟩
abbrev main_c_28 : Ref sig .tc := ⟨.hbm, 120, rfl⟩
abbrev main_v86 : Ref sig .tc := ⟨.hbm, 121, rfl⟩
abbrev main_v87 : Ref sig .tc := ⟨.hbm, 122, rfl⟩
abbrev main_c_29 : Ref sig .tc := ⟨.hbm, 123, rfl⟩
abbrev main_v88 : Ref sig .tc := ⟨.hbm, 124, rfl⟩
abbrev main_v89 : Ref sig .tc := ⟨.hbm, 125, rfl⟩
abbrev main_c_30 : Ref sig .tc := ⟨.hbm, 126, rfl⟩
abbrev main_v90 : Ref sig .tc := ⟨.hbm, 127, rfl⟩
abbrev main_v91 : Ref sig .tc := ⟨.hbm, 128, rfl⟩
abbrev main_c_31 : Ref sig .tc := ⟨.hbm, 129, rfl⟩
abbrev main_v92 : Ref sig .tc := ⟨.hbm, 130, rfl⟩
abbrev main_v93 : Ref sig .tc := ⟨.hbm, 131, rfl⟩
abbrev main_c_32 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_33 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_34 : Ref sig .tc := ⟨.hbm, 144, rfl⟩
abbrev main_v104 : Ref sig .tc := ⟨.hbm, 145, rfl⟩
abbrev main_v105 : Ref sig .tc := ⟨.hbm, 146, rfl⟩
abbrev main_c_35 : Ref sig .tc := ⟨.hbm, 147, rfl⟩
abbrev main_v106 : Ref sig .tc := ⟨.hbm, 148, rfl⟩
abbrev main_v107 : Ref sig .tc := ⟨.hbm, 149, rfl⟩
abbrev main_c_36 : Ref sig .tc := ⟨.hbm, 150, rfl⟩
abbrev main_v108 : Ref sig .tc := ⟨.hbm, 151, rfl⟩
abbrev main_v109 : Ref sig .tc := ⟨.hbm, 152, rfl⟩
abbrev main_c_37 : Ref sig .tc := ⟨.hbm, 153, rfl⟩
abbrev main_v110 : Ref sig .tc := ⟨.hbm, 154, rfl⟩
abbrev main_v111 : Ref sig .tc := ⟨.hbm, 155, rfl⟩
abbrev main_c_38 : Ref sig .tc := ⟨.hbm, 156, rfl⟩
abbrev main_v112 : Ref sig .tc := ⟨.hbm, 157, rfl⟩
abbrev main_v113 : Ref sig .tc := ⟨.hbm, 158, rfl⟩
abbrev main_c_39 : Ref sig .tc := ⟨.hbm, 159, rfl⟩
abbrev main_v114 : Ref sig .tc := ⟨.hbm, 160, rfl⟩
abbrev main_v115 : Ref sig .tc := ⟨.hbm, 161, rfl⟩
abbrev main_c_40 : Ref sig .tc := ⟨.hbm, 162, rfl⟩
abbrev main_v116 : Ref sig .tc := ⟨.hbm, 163, rfl⟩
abbrev main_v117 : Ref sig .tc := ⟨.hbm, 164, rfl⟩
abbrev main_c_41 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_c_42 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩

abbrev nD : Nat := 1
abbrev τ : Topo := Topo.v7x

variable {F : FTy → Type} [FloatOps F]
-- ==== Proof.Decode.lean ====
/-
  The six-bit weight codes. A code is a sign, three exponent bits and two mantissa bits; four of them lie in three
  bytes. Here: what integer a code denotes (`fp6`), the eight-bit float pattern that holds the same number divided by
  256 (`enc`, `ofBits_enc`), and the two ways a program computes with them: the word arithmetic that decodes four rows at
  once (`word0` … `word3`, read byte by byte in `word_byte`) and the integer arithmetic on widened bytes (`codeInt`,
  `fp6Int`).
-/
module

public import Idealize.ShloMosaic.Lib.BitcastFour
public import Idealize.ShloMosaic.PureOps.Ideal
public import Idealize.ShloMosaic.Lib.Pointwise

@[expose] public section

noncomputable section

namespace Cert.Fp6

open Idealize.ShloMosaic

/-- Field `i` of the three bytes: the code of column `4 J + i`. -/
def code (i : Fin 4) (b0 b1 b2 : BitVec 8) : BitVec 6 :=
  match i with
  | 0 => b0.extractLsb' 0 6
  | 1 => b1.extractLsb' 0 4 ++ b0.extractLsb' 6 2
  | 2 => b2.extractLsb' 0 2 ++ b1.extractLsb' 4 4
  | 3 => b2.extractLsb' 2 6

/-- The magnitude of a code, in sixteenths. -/
def mag (c : BitVec 6) : ℕ :=
  if (c.extractLsb' 2 3).toNat = 0 then (c.extractLsb' 0 2).toNat
  else (4 + (c.extractLsb' 0 2).toNat) * 2 ^ ((c.extractLsb' 2 3).toNat - 1)

/-- What a code denotes, in sixteenths: an integer of magnitude at most 448. -/
def fp6 (c : BitVec 6) : ℤ := if c.extractLsb' 5 1 = 1#1 then -(mag c : ℤ) else mag c

/-- The eight-bit float pattern of a code: the sign on top, then a zero, the five other bits, and a zero. -/
def enc (c : BitVec 6) : BitVec 8 := c.extractLsb' 5 1 ++ 0#1 ++ c.extractLsb' 0 5 ++ 0#1

/-- The eight-bit float of a code is the code's integer over 256. -/
theorem ofBits_enc (c : BitVec 6) : Ideal.ofBits .fp8e4m3 (enc c) = (((fp6 c : ℝ) / 256 : ℝ) : EReal) := by
  have key : ∀ c : BitVec 6,
      ((enc c).extractLsb' 7 1 == 1#1) = (c.extractLsb' 5 1 == 1#1)
      ∧ ((enc c).extractLsb' 3 4).toNat = (c.extractLsb' 2 3).toNat
      ∧ ((enc c).extractLsb' 0 3).toNat = 2 * (c.extractLsb' 0 2).toNat
      ∧ (c.extractLsb' 2 3).toNat < 8 := by decide
  obtain ⟨h1, h2, h3, h4⟩ := key c
  simp only [Ideal.ofBits, Ideal.e4m3fn, h1, h2, h3, fp6, mag]
  generalize (c.extractLsb' 2 3).toNat = e at *
  generalize (c.extractLsb' 0 2).toNat = f at *
  rw [if_neg (by omega)]
  by_cases hs : c.extractLsb' 5 1 = 1#1
  · simp only [hs, beq_self_eq_true, if_true]
    by_cases he : e = 0
    · simp only [he, if_true]; congr 1; push_cast; norm_num; ring
    · simp only [he, if_false]; congr 1; push_cast
      have : (2 : ℝ) ^ ((e : ℤ) - 10) = (2 : ℝ) ^ (e - 1) / 512 := by
        obtain ⟨k, rfl⟩ : ∃ k, e = k + 1 := ⟨e - 1, by omega⟩
        rw [show (((k + 1 : ℕ) : ℤ) - 10) = (k : ℤ) - 9 by push_cast; ring, zpow_sub₀ (by norm_num)]
        norm_num
      rw [this]; ring
  · simp only [beq_eq_false_iff_ne.2 hs, hs, if_false, Bool.false_eq_true]
    by_cases he : e = 0
    · simp only [he, if_true]; congr 1; push_cast; norm_num; ring
    · simp only [he, if_false]; congr 1; push_cast
      have : (2 : ℝ) ^ ((e : ℤ) - 10) = (2 : ℝ) ^ (e - 1) / 512 := by
        obtain ⟨k, rfl⟩ : ∃ k, e = k + 1 := ⟨e - 1, by omega⟩
        rw [show (((k + 1 : ℕ) : ℤ) - 10) = (k : ℤ) - 9 by push_cast; ring, zpow_sub₀ (by norm_num)]
        norm_num
      rw [this]; ring

/-! ## The word arithmetic -/

/-- A word whose bytes hold a code one bit up, with the code's sign moved to the top of its byte. -/
def widen (t : BitVec 32) : BitVec 32 := t + (t &&& 1077952576#32)

def word0 (w0 : BitVec 32) : BitVec 32 := widen ((w0 + w0) &&& 2122219134#32)
def word1 (w0 w1 : BitVec 32) : BitVec 32 := widen ((w1 <<< 3) &&& 2021161080#32) ||| ((w0 >>> 5) &&& 101058054#32)
def word2 (w1 w2 : BitVec 32) : BitVec 32 := widen ((w2 <<< 5) &&& 1616928864#32) + ((w1 >>> 3) &&& 505290270#32)
def word3 (w2 : BitVec 32) : BitVec 32 := (w2 &&& 2155905152#32) ||| ((w2 >>> 1) &&& 1044266558#32)

/-- The word of field `i`. -/
def word (i : Fin 4) (w0 w1 w2 : BitVec 32) : BitVec 32 :=
  match i with
  | 0 => word0 w0
  | 1 => word1 w0 w1
  | 2 => word2 w1 w2
  | 3 => word3 w2

/-- Where no byte's top and bottom bits are set, moving the sign up carries nothing into a neighbour. -/
theorem widen_eq (t : BitVec 32) (h : t &&& 2122219134#32 = t) :
    widen t = (t &&& 1044266558#32) ||| ((t &&& 1077952576#32) <<< 1) := by
  have e1 : t = (t &&& 1044266558#32) + (t &&& 1077952576#32) := by
    rw [BitVec.add_eq_or_of_and_eq_zero]
    · rw [← BitVec.and_or_distrib_left]; exact h.symm
    · rw [show (t &&& 1044266558#32) &&& (t &&& 1077952576#32) = t &&& (1044266558#32 &&& 1077952576#32) by ac_rfl]
      simp
  have e2 : (t &&& 1044266558#32) &&& ((t &&& 1077952576#32) <<< 1) = 0#32 := by
    rw [BitVec.shiftLeft_and_distrib, show (1077952576#32 <<< 1 : BitVec 32) = 2155905152#32 by rfl,
      show (t &&& 1044266558#32) &&& (t <<< 1 &&& 2155905152#32) = (t &&& t <<< 1) &&& (1044266558#32 &&& 2155905152#32) by ac_rfl]
    simp
  rw [← BitVec.add_eq_or_of_and_eq_zero _ _ e2]
  have e3 : (t &&& 1077952576#32) <<< 1 = (t &&& 1077952576#32) + (t &&& 1077952576#32) := by
    rw [BitVec.shiftLeft_eq_mul_twoPow]
    apply BitVec.eq_of_toNat_eq
    simp [BitVec.toNat_mul, BitVec.toNat_add]
    omega
  rw [e3, ← BitVec.add_assoc, ← e1]
  rfl

theorem word0_eq (w : BitVec 32) : word0 w = ((w <<< 1) &&& 1044266558#32) ||| ((w &&& 538976288#32) <<< 2) := by
  have e : w + w = w <<< 1 := by
    rw [BitVec.shiftLeft_eq_mul_twoPow]
    apply BitVec.eq_of_toNat_eq
    simp [BitVec.toNat_mul, BitVec.toNat_add]
    omega
  rw [word0, e, widen_eq _ (by rw [BitVec.and_assoc]; rfl)]
  apply BitVec.eq_of_getLsbD_eq
  intro n hn
  interval_cases n <;> simp

theorem word1_eq (w0 w1 : BitVec 32) : word1 w0 w1
    = (((w1 <<< 3) &&& 943208504#32) ||| ((w1 &&& 134744072#32) <<< 4)) ||| ((w0 >>> 5) &&& 101058054#32) := by
  rw [word1, widen_eq _ (by rw [BitVec.and_assoc]; rfl)]
  apply BitVec.eq_of_getLsbD_eq
  intro n hn
  interval_cases n <;> simp

theorem word2_eq (w1 w2 : BitVec 32) : word2 w1 w2
    = (((w2 <<< 5) &&& 538976288#32) ||| ((w2 &&& 33686018#32) <<< 6)) ||| ((w1 >>> 3) &&& 505290270#32) := by
  rw [word2, widen_eq _ (by rw [BitVec.and_assoc]; rfl), BitVec.add_eq_or_of_and_eq_zero]
  all_goals
    apply BitVec.eq_of_getLsbD_eq
    intro n hn
    interval_cases n <;> simp

theorem code_one_bit (b0 b1 b2 : BitVec 8) (n : ℕ) : (code 1 b0 b1 b2).getLsbD n
    = bif decide (n < 2) then (b0.extractLsb' 6 2).getLsbD n else (b1.extractLsb' 0 4).getLsbD (n - 2) := by
  rw [cond_eq_ite]; simp only [decide_eq_true_eq]; exact BitVec.getLsbD_append

theorem code_two_bit (b0 b1 b2 : BitVec 8) (n : ℕ) : (code 2 b0 b1 b2).getLsbD n
    = bif decide (n < 4) then (b1.extractLsb' 4 4).getLsbD n else (b2.extractLsb' 0 2).getLsbD (n - 4) := by
  rw [cond_eq_ite]; simp only [decide_eq_true_eq]; exact BitVec.getLsbD_append

theorem enc_bit (c : BitVec 6) (n : ℕ) (hn : n < 8) : (enc c).getLsbD n
    = bif decide (n < 1) then false else bif decide (n < 6) then c.getLsbD (n - 1) else bif decide (n < 7) then false
      else c.getLsbD 5 := by
  revert c; interval_cases n <;> decide

/-- Byte `q` of the decoded word is the float pattern of the code that byte `q` of the three packed words holds. -/
theorem word_byte (i : Fin 4) (w0 w1 w2 : BitVec 32) (q : ℕ) (hq : q < 4) :
    (word i w0 w1 w2).extractLsb' (8 * q) 8
      = enc (code i (w0.extractLsb' (8 * q) 8) (w1.extractLsb' (8 * q) 8) (w2.extractLsb' (8 * q) 8)) := by
  apply BitVec.eq_of_getLsbD_eq
  intro n hn
  rw [enc_bit _ n hn]
  match i with
  | 0 =>
    simp only [word, word0_eq, code]
    interval_cases q <;> interval_cases n <;> simp
  | 1 =>
    simp only [word, word1_eq, code_one_bit]
    interval_cases q <;> interval_cases n <;> simp
  | 2 =>
    simp only [word, word2_eq, code_two_bit]
    interval_cases q <;> interval_cases n <;> simp
  | 3 =>
    simp only [word, word3, code]
    interval_cases q <;> interval_cases n <;> simp

/-! ## The integer arithmetic -/

/-- A code widened with zeros, by the integer arithmetic on the three widened bytes. -/
def codeInt (i : Fin 4) (b0 b1 b2 : BitVec 32) : BitVec 32 :=
  match i with
  | 0 => b0 &&& 63#32
  | 1 => (b0.sshiftRight 6) ||| ((b1 &&& 15#32) <<< 2)
  | 2 => (b1.sshiftRight 4) ||| ((b2 &&& 3#32) <<< 4)
  | 3 => b2.sshiftRight 2

theorem sshiftRight_widened (b : BitVec 8) (k : ℕ) : (b.setWidth 32).sshiftRight k = (b.setWidth 32) >>> k :=
  BitVec.sshiftRight_eq_of_msb_false (by rw [BitVec.msb_setWidth]; exact BitVec.getLsbD_of_ge _ _ (by decide))

theorem codeInt_eq (i : Fin 4) (b0 b1 b2 : BitVec 8) :
    codeInt i (b0.setWidth 32) (b1.setWidth 32) (b2.setWidth 32) = (code i b0 b1 b2).setWidth 32 := by
  apply BitVec.eq_of_getLsbD_eq
  intro n hn
  match i with
  | 0 => simp only [codeInt, code]; interval_cases n <;> simp
  | 1 =>
    rw [BitVec.getLsbD_setWidth (x := code 1 b0 b1 b2), code_one_bit]
    simp only [codeInt]
    interval_cases n <;> simp [sshiftRight_widened]
  | 2 =>
    rw [BitVec.getLsbD_setWidth (x := code 2 b0 b1 b2), code_two_bit]
    simp only [codeInt]
    interval_cases n <;> simp [sshiftRight_widened]
  | 3 => simp only [codeInt, code]; interval_cases n <;> simp [sshiftRight_widened]

/-- The magnitude of a widened code, as the integer program computes it. -/
def magInt (c : BitVec 32) : BitVec 32 :=
  Scalar.select (IntOp.cmpi .eq (IntOp.andi (IntOp.shrsi .host c 2#32) 7#32) 0#32) (IntOp.andi c 3#32)
    (IntOp.shli .host (IntOp.addi 4#32 (IntOp.andi c 3#32))
      (IntOp.maxsi (IntOp.subi (IntOp.andi (IntOp.shrsi .host c 2#32) 7#32) 1#32) 0#32))

/-- The integer of a widened code, as the integer program computes it. -/
def fp6Int (c : BitVec 32) : BitVec 32 :=
  Scalar.select (IntOp.cmpi .eq (IntOp.shrsi .host c 5#32) 1#32) (-(magInt c)) (magInt c)

theorem fp6Int_eq (c : BitVec 6) : (fp6Int (c.setWidth 32)).toInt = fp6 c := by
  revert c
  decide

end Cert.Fp6

end
-- ==== Proof.WBlock.lean ====
/-
  One block of the decoded weights. The kernel decodes thirty-two rows by one hundred and twenty-eight byte columns at a
  time: it reads the three byte planes of the block as words (`bytesOf`), takes field `i` out of the words (`fieldOf`),
  reads the bytes of the result as eight-bit floats and multiplies by the block's scales (`scaleOf`). Here: that
  computation as a function of the block (`wPiece`), and its value at row `r`, lane `l` (`wPiece_at`).
-/
module

public import proofs.«01_k».proof.Proof.Gen.KernelIdeal
public import proofs.«01_k».proof.Proof.Decode
public import Idealize.ShloMosaic.Lib.Pointwise

@[expose] public section

set_option maxRecDepth 16384

noncomputable section

namespace Cert.KernelIdeal.Val

open Idealize.ShloMosaic Cert.KernelIdeal Cert.KernelIdeal.Gen Cert.Fp6

/-- A block of bytes, four rows to a word. -/
def bytesOf (v : Vec Ideal S1x32x128 .i8) : IVec S8x128 32 :=
  bitcast S8x128 32 (shapeCast S32x128 v shapeCasts_S1x32x128_S32x128) bitcasts_S32x128_w8_S8x128_w32

/-- The doubling of the exponent's high bit into the bit above it, on a block of words. -/
def widenV (t : IVec S8x128 32) : IVec S8x128 32 := addi t (andi t (broadcast S8x128 1077952576#32))

/-- Field `i` of three blocks of words. -/
def fieldOf (i : Fin 4) (w0 w1 w2 : IVec S8x128 32) : IVec S8x128 32 :=
  match i with
  | 0 => widenV (andi (addi w0 w0) (broadcast S8x128 2122219134#32))
  | 1 => ori (widenV (andi (shli w1 (broadcast S8x128 3#32)) (broadcast S8x128 2021161080#32)))
      (andi (shrui w0 (broadcast S8x128 5#32)) (broadcast S8x128 101058054#32))
  | 2 => addi (widenV (andi (shli w2 (broadcast S8x128 5#32)) (broadcast S8x128 1616928864#32)))
      (andi (shrui w1 (broadcast S8x128 3#32)) (broadcast S8x128 505290270#32))
  | 3 => ori (andi w2 (broadcast S8x128 2155905152#32)) (andi (shrui w2 (broadcast S8x128 1#32)) (broadcast S8x128 1044266558#32))

/-- The group index of each lane: `c + lane / 32`. -/
def groupIdx (c : BitVec 32) : IVec S8x128 32 :=
  have v0 : IVec S8x128 32 := iota .tc S8x128 32 [1] iota_S8x128_d1_w32
  have v17 : IVec S8x128 32 := divsi v0 (broadcast S8x128 32#32)
  have v24 : IVec S8x128 32 := subi (extui 32 (cmpi .sgt v0 (broadcast S8x128 0#32)) natLt_1_32)
    (extui 32 (cmpi .slt v0 (broadcast S8x128 0#32)) natLt_1_32)
  have v30 : IVec S8x128 32 := broadcast S8x128
    (Scalar.subi (Scalar.extui (Scalar.cmpi .sgt 32#32 0#32)) (Scalar.extui (Scalar.cmpi .slt 32#32 0#32)))
  have v31 : IVec S8x128 1 := cmpi .ne v24 v30
  have v35 : IVec S8x128 1 := cmpi .ne (remsi v0 (broadcast S8x128 32#32)) (broadcast S8x128 0#32)
  have v39 : IVec S8x128 32 := select (andi v31 v35) (subi v17 (broadcast S8x128 1#32)) v17
  addi (broadcast S8x128 c) v39

/-- Sixteen rows of scales, gathered along the lanes by the group index. -/
def halfScale (gt : FVec Ideal S256x128 .f32) (idx : IVec S8x128 32) (off : Fin 2 → ℕ) (h : S256x128.Slices off S16x128) :
    FVec Ideal S16x128 .bf16 :=
  have v52 : IVec S16x128 32 := concatenate S16x128 0 [⟨S8x128, idx⟩, ⟨S8x128, idx⟩] concatenates_S8x128_S8x128_S16x128_d0
  have v57 : IVec S16x128 32 := select (cmpi .slt v52 (broadcast S16x128 0#32)) (addi v52 (broadcast S16x128 128#32)) v52
  have v59 : IVec S16x128 32 := shapeCast S16x128 (shapeCast S16x128x1 v57 shapeCasts_S16x128_S16x128x1) shapeCasts_S16x128x1_S16x128
  truncf .bf16 (dynamicGather 1 (extractStridedSlice S16x128 off gt h) v59) bitsLt_bf16_f32

/-- A block of thirty-two rows lies in the two hundred and fifty-six. -/
theorem slices_half (nb : Fin 8) (h : Fin 2) : S256x128.Slices ![32 * nb.val + 16 * h.val, 0] S16x128 := by
  revert nb h; decide

/-- The scales of a block: row `32 nb + r`, group `c + l / 32`. -/
def scaleOf (gt : FVec Ideal S256x128 .f32) (c : BitVec 32) (nb : Fin 8) : FVec Ideal S32x128 .bf16 :=
  concatenate S32x128 0 [⟨S16x128, halfScale gt (groupIdx c) ![32 * nb.val + 16 * 0, 0] (slices_half nb 0)⟩,
    ⟨S16x128, halfScale gt (groupIdx c) ![32 * nb.val + 16 * 1, 0] (slices_half nb 1)⟩] concatenates_S16x128_S16x128_S32x128_d0

/-- Field `i` of a block as eight-bit floats times the block's scales. -/
def wPiece (i : Fin 4) (w0 w1 w2 : Vec Ideal S1x32x128 .i8) (s : FVec Ideal S32x128 .bf16) : FVec Ideal S32x128 .bf16 :=
  shapeCast S32x128 (mulf (extf .bf16 (bitcastToFloat .fp8e4m3
    (bitcast S32x128 8 (fieldOf i (bytesOf w0) (bytesOf w1) (bytesOf w2)) bitcasts_S8x128_w32_S32x128_w8)) bitsLt_fp8e4m3_bf16) s)
    shapeCasts_S32x128_S32x128

/-- A word of a block of bytes, cut into its bytes. -/
theorem bytesOf_at (v : Vec Ideal S1x32x128 .i8) (a : Fin 8) (l : Fin 128) (q : Fin 4) :
    (bytesOf v (ix2 a l)).extractLsb' (8 * q.val) 8 = v (ix3 0 ⟨4 * a.val + q.val, by omega⟩ l) := by
  apply BitVec.eq_of_getLsbD_eq
  intro b hb
  rw [BitVec.getLsbD_extractLsb']
  simp only [hb, decide_true, Bool.true_and]
  refine (bitcast_8_32_getLsbD_ix2 (R := 32) (r := 8) (n := 128) _ bitcasts_S32x128_w8_S8x128_w32 a l (8 * q.val + b) (by omega)
    ⟨4 * a.val + q.val, by omega⟩ (by show 4 * a.val + q.val = 4 * a.val + (8 * q.val + b) / 8; omega)).trans ?_
  have e : (8 * q.val + b) % 8 = b := by omega
  rw [e]
  congr 1
  show shapeCast S32x128 v shapeCasts_S1x32x128_S32x128 (ix2 ⟨4 * a.val + q.val, by omega⟩ l) = _
  pointwise

/-- A word block read as bytes: row `4 a + q` is byte `q` of row `a`. -/
theorem bytes_of_words (x : IVec S8x128 32) (r : Fin 32) (l : Fin 128) :
    bitcast S32x128 8 x bitcasts_S8x128_w32_S32x128_w8 (ix2 r l)
      = (x (ix2 ⟨r.val / 4, by omega⟩ l)).extractLsb' (8 * (r.val % 4)) 8 := by
  apply BitVec.eq_of_getLsbD_eq
  intro b hb
  rw [BitVec.getLsbD_extractLsb']
  simp only [hb, decide_true, Bool.true_and]
  rw [bitcast_getLsbD x _ _ b hb (by decide)]
  have hrow : S32x128.row (ix2 r l) = r.val := rfl
  have e : (S32x128.row (ix2 r l) * 8 + b) % 32 = 8 * (r.val % 4) + b := by rw [hrow]; omega
  rw [e]
  congr 2
  funext c
  match c with
  | ⟨0, _⟩ => exact Fin.ext ((Shape.Bitcasts.srcIdx_row _ _ _ _ ⟨0, Nat.zero_lt_two⟩ rfl).trans (by rw [hrow]; show _ = r.val / 4; omega))
  | ⟨1, _⟩ => exact Fin.ext (Shape.Bitcasts.srcIdx_other _ _ _ _ ⟨1, Nat.one_lt_two⟩ (by show ¬ 1 + 2 = 2; omega))

/-- The words of a field are the word arithmetic, word by word. -/
theorem fieldOf_at (i : Fin 4) (w0 w1 w2 : IVec S8x128 32) (j : S8x128.Idx) :
    fieldOf i w0 w1 w2 j = word i (w0 j) (w1 j) (w2 j) := by
  match i with
  | 0 => rfl
  | 1 => rfl
  | 2 => rfl
  | 3 => rfl

theorem groupIdx_at (c : BitVec 32) (a : Fin 8) (l : Fin 128) :
    groupIdx c (ix2 a l) = c + BitVec.ofNat 32 (l.val / 32) := by
  have h : groupIdx c (ix2 a l) = IntOp.addi c (groupIdx 0#32 (ix2 a l)) := by
    show IntOp.addi c _ = IntOp.addi c (IntOp.addi 0#32 _)
    exact congrArg (IntOp.addi c) (BitVec.zero_add _).symm
  have lane : ∀ l : Fin 128, groupIdx 0#32 (ix2 0 l) = BitVec.ofNat 32 (l.val / 32) := by decide
  rw [h, show groupIdx 0#32 (ix2 a l) = groupIdx 0#32 (ix2 0 l) from rfl, lane]
  rfl

theorem halfScale_at (gt : FVec Ideal S256x128 .f32) (idx : IVec S8x128 32) (off : Fin 2 → ℕ) (h : S256x128.Slices off S16x128)
    (g : Fin 128) (l : Fin 128) (hg : ∀ a : Fin 8, idx (ix2 a l) = BitVec.ofNat 32 g.val) (r : Fin 16)
    (n : Fin 256) (hn : n.val = off 0 + r.val) (h1 : off 1 = 0) :
    halfScale gt idx off h (ix2 r l) = gt (ix2 n g) := by
  unfold halfScale
  pointwise
  have e : ∀ r : Fin 16, (if h : r.val < 8 then idx (ix2 ⟨r.val, h⟩ l) else idx (ix2 ⟨r.val - 8, by omega⟩ l)) = BitVec.ofNat 32 g.val :=
    fun r => by split <;> exact hg _
  have hw : ∀ g : Fin 128, (Scalar.select (IntOp.cmpi .slt (BitVec.ofNat 32 g.val) 0#32)
      (IntOp.addi (BitVec.ofNat 32 g.val) 128#32) (BitVec.ofNat 32 g.val)).toNat % 128 = g.val := by decide
  congr 2
  · exact Fin.ext hn.symm
  · exact Fin.ext (by show off 1 + _ = g.val; simp only [e r, hw, h1, Nat.zero_add])

/-- The scale at row `r`, lane `l` of a block. -/
theorem scaleOf_at (gt : FVec Ideal S256x128 .f32) (jb : Fin 16) (nb : Fin 8) (r : Fin 32) (l : Fin 128) :
    scaleOf gt (BitVec.ofNat 32 (4 * jb.val)) nb (ix2 r l)
      = gt (ix2 ⟨32 * nb.val + r.val, by omega⟩ ⟨4 * jb.val + l.val / 32, by omega⟩) := by
  have hg : ∀ a : Fin 8, groupIdx (BitVec.ofNat 32 (4 * jb.val)) (ix2 a l)
      = BitVec.ofNat 32 (⟨4 * jb.val + l.val / 32, by omega⟩ : Fin 128).val := fun a => by
    rw [groupIdx_at]; exact (BitVec.ofNat_add _ _).symm
  unfold scaleOf
  by_cases hr : r.val < 16
  · rw [← halfScale_at gt _ _ (slices_half nb 0) ⟨4 * jb.val + l.val / 32, by omega⟩ l hg ⟨r.val, hr⟩
      ⟨32 * nb.val + r.val, by omega⟩ rfl rfl]
    generalize halfScale gt _ _ (slices_half nb 0) = A
    generalize halfScale gt _ _ (slices_half nb 1) = B
    pointwise
    simp [hr]
  · rw [← halfScale_at gt _ _ (slices_half nb 1) ⟨4 * jb.val + l.val / 32, by omega⟩ l hg ⟨r.val - 16, by omega⟩
      ⟨32 * nb.val + r.val, by omega⟩ (by show 32 * nb.val + r.val = 32 * nb.val + 16 * 1 + (r.val - 16); omega) rfl]
    generalize halfScale gt _ _ (slices_half nb 0) = A
    generalize halfScale gt _ _ (slices_half nb 1) = B
    pointwise
    simp [hr]

/-- A block at row `r`, lane `l`: the code's number over 256, times the scale. -/
theorem wPiece_at (i : Fin 4) (w0 w1 w2 : Vec Ideal S1x32x128 .i8) (s : FVec Ideal S32x128 .bf16) (r : Fin 32) (l : Fin 128) :
    wPiece i w0 w1 w2 s (ix2 r l)
      = (((fp6 (code i (w0 (ix3 0 r l)) (w1 (ix3 0 r l)) (w2 (ix3 0 r l))) : ℝ) / 256 : ℝ) : EReal) * s (ix2 r l) := by
  have hb : ∀ v : Vec Ideal S1x32x128 .i8,
      (bytesOf v (ix2 ⟨r.val / 4, by omega⟩ l)).extractLsb' (8 * (r.val % 4)) 8 = v (ix3 0 r l) := fun v => by
    rw [bytesOf_at v ⟨r.val / 4, by omega⟩ l ⟨r.val % 4, by omega⟩]
    congr 1
    have : (⟨4 * (r.val / 4) + r.val % 4, by omega⟩ : Fin 32) = r := Fin.ext (by show 4 * (r.val / 4) + r.val % 4 = r.val; omega)
    exact congrArg (fun r' => ix3 0 r' l) this
  have hbyte : bitcast S32x128 8 (fieldOf i (bytesOf w0) (bytesOf w1) (bytesOf w2)) bitcasts_S8x128_w32_S32x128_w8 (ix2 r l)
      = enc (code i (w0 (ix3 0 r l)) (w1 (ix3 0 r l)) (w2 (ix3 0 r l))) := by
    rw [bytes_of_words, fieldOf_at, word_byte i _ _ _ _ (by omega), hb, hb, hb]
  have hshape : wPiece i w0 w1 w2 s (ix2 r l)
      = Ideal.ofBits .fp8e4m3 (bitcast S32x128 8 (fieldOf i (bytesOf w0) (bytesOf w1) (bytesOf w2)) bitcasts_S8x128_w32_S32x128_w8 (ix2 r l))
        * s (ix2 r l) := by
    unfold wPiece
    generalize bitcast S32x128 8 (fieldOf i (bytesOf w0) (bytesOf w1) (bytesOf w2)) bitcasts_S8x128_w32_S32x128_w8 = z
    pointwise
  rw [hshape, hbyte, ofBits_enc]

end Cert.KernelIdeal.Val
-- ==== Proof.WPieces.lean ====
/-
  The stores of the decoded weights. A grid point writes the 256 x 8192 matrix in 16 x 8 x 4 blocks: `wStore jb nb i` is
  the store of byte-column block `jb`, row block `nb` and field `i`, and `wStores` is the list of all of them, last store
  first. The stores a run records are that list, at the first grid point and at every later one.
-/
module

public import proofs.«01_k».proof.Proof.WBlock
public import proofs.«01_k».proof.Proof.Gen.KernelIdeal.Frame.RunB
public import Idealize.ShloMosaic.Lib.Pipeline.ValueKit
public import Idealize.ShloMosaic.Lib.Pipeline.ReadBack

@[expose] public section

set_option maxRecDepth 16384

noncomputable section

namespace Cert.KernelIdeal.Val

open Idealize.ShloMosaic Cert.KernelIdeal Cert.KernelIdeal.Gen Cert.Fp6

theorem inb_wLoad (p : Fin 3) (jb : Fin 16) (nb : Fin 8) :
    ∀ a, (![p.val, 32 * nb.val, 128 * jb.val] : Fin 3 → ℕ) a + S1x32x128.size a ≤ S3x256x2048.size a := by
  intro a
  match a with
  | ⟨0, _⟩ => show p.val + 1 ≤ 3; omega
  | ⟨1, _⟩ => show 32 * nb.val + 32 ≤ 256; omega
  | ⟨2, _⟩ => show 128 * jb.val + 128 ≤ 2048; omega

theorem inb_wStore (jb : Fin 16) (nb : Fin 8) (i : Fin 4) :
    ∀ a, (![32 * nb.val, 512 * jb.val + 128 * i.val] : Fin 2 → ℕ) a + S32x128.size a ≤ S256x8192.size a := by
  intro a
  match a with
  | ⟨0, _⟩ => show 32 * nb.val + 32 ≤ 256; omega
  | ⟨1, _⟩ => show 512 * jb.val + 128 * i.val + 128 ≤ 8192; omega

section
variable (arg2 : Memref sig .tc .vmem S3x256x2048 .i8) (harg2 : arg2.IsWhole)
  (arg3 : Memref sig .tc .vmem S64x256 .f32) (harg3 : arg3.IsWhole)
  (x1 : Vec Ideal S3x256x2048 .i8) (x2 : Vec Ideal S64x256 .f32)

/-- Byte plane `p` of a block, as loaded. -/
def wLoad (p : Fin 3) (jb : Fin 16) (nb : Fin 8) : Vec Ideal S1x32x128 .i8 :=
  View.readAt (Elt Ideal) arg2.view
    (Rect.unit (s := S3x256x2048) ![p.val, 32 * nb.val, 128 * jb.val] S1x32x128.size (inb_wLoad p jb nb)).toLoadRect (harg2.unread x1)

/-- The scales, rows down and groups across, each group twice. -/
def gLoad : FVec Ideal S256x128 .f32 :=
  k0_pay368 (View.readAt (Elt Ideal) arg3.view
    (Rect.unit ![0, 0] S64x256.size inb_S64x256_S64x256_0_0).toLoadRect (harg3.unread x2))

/-- The store of one block. -/
def wStore (jb : Fin 16) (nb : Fin 8) (i : Fin 4) : View.Piece (Elt Ideal) S256x8192 .bf16 :=
  ⟨Rect.unit ![32 * nb.val, 512 * jb.val + 128 * i.val] S32x128.size (inb_wStore jb nb i),
    wPiece i (wLoad arg2 harg2 x1 0 jb nb) (wLoad arg2 harg2 x1 1 jb nb) (wLoad arg2 harg2 x1 2 jb nb)
      (scaleOf (gLoad arg3 harg3 x2) (BitVec.ofNat 32 (4 * jb.val)) nb)⟩
end

/-- A list over the fields, rows and columns of the blocks, last first. -/
def downFields {α : Type} (f : Fin 4 → α) (L : List α) : List α := f 3 :: f 2 :: f 1 :: f 0 :: L

def downRows {α : Type} (f : Fin 8 → Fin 4 → α) (L : List α) : List α :=
  downFields (f 7) <| downFields (f 6) <| downFields (f 5) <| downFields (f 4) <|
  downFields (f 3) <| downFields (f 2) <| downFields (f 1) <| downFields (f 0) L

def downCols {α : Type} (f : Fin 16 → Fin 8 → Fin 4 → α) : List α :=
  downRows (f 15) <| downRows (f 14) <| downRows (f 13) <| downRows (f 12) <|
  downRows (f 11) <| downRows (f 10) <| downRows (f 9) <| downRows (f 8) <|
  downRows (f 7) <| downRows (f 6) <| downRows (f 5) <| downRows (f 4) <|
  downRows (f 3) <| downRows (f 2) <| downRows (f 1) <| downRows (f 0) []

/-- The stores a later grid point records are the blocks. -/
theorem wStores_later (c : Dev nD) (arg2 : Memref sig .tc .vmem S3x256x2048 .i8) (harg2 : arg2.IsWhole)
    (arg3 : Memref sig .tc .vmem S64x256 .f32) (harg3 : arg3.IsWhole)
    (x1 : Vec Ideal S3x256x2048 .i8) (x2 : Vec Ideal S64x256 .f32) :
    kernelRun0_B.sl.HS1_512 c arg2 harg2 arg3 harg3 x1 x2 = downCols (wStore arg2 harg2 arg3 harg3 x1 x2) := by
  sl_kernel_rfl

/-- The stores the first grid point records are the blocks. -/
theorem wStores_first (c : Dev nD) (arg2 : Memref sig .tc .vmem S3x256x2048 .i8) (harg2 : arg2.IsWhole)
    (arg3 : Memref sig .tc .vmem S64x256 .f32) (harg3 : arg3.IsWhole)
    (x1 : Vec Ideal S3x256x2048 .i8) (x2 : Vec Ideal S64x256 .f32) :
    kernelRun0_A.sl.HS1_512 c arg2 harg2 arg3 harg3 x1 x2 = downCols (wStore arg2 harg2 arg3 harg3 x1 x2) := by
  sl_kernel_rfl

end Cert.KernelIdeal.Val
-- ==== Proof.XBlock.lean ====
/-
  The reordered input. The first grid point takes the input one hundred and twenty-eight columns at a time, gathers the
  columns of equal remainder by four together, and stores the transposed block in four pieces, one for each remainder.
  Here: a piece as a function of the columns (`xPiece`), its value (`xPiece_at`), and the list of the stores.
-/
module

public import proofs.«01_k».proof.Proof.WPieces

@[expose] public section

set_option maxRecDepth 16384

noncomputable section

namespace Cert.KernelIdeal.Val

open Idealize.ShloMosaic Cert.KernelIdeal Cert.KernelIdeal.Gen Cert.Fp6

/-- The column each lane takes: lane `32 i + r` takes column `4 r + i`. -/
def laneOrder : IVec S8x128 32 := k0_pay3 (iota .tc S8x128 32 [1] iota_S8x128_d1_w32)

theorem slices_field (i : Fin 4) : S128x256.Slices ![32 * i.val, 0] S32x256 := by
  revert i; decide

/-- The order of the columns, for each of the two hundred and fifty-six rows. -/
def rowOrder : IVec S256x128 32 :=
  concatenate S256x128 0 (List.replicate 32 (⟨S8x128, laneOrder⟩ : (s : Shape) × (s.Idx → BitVec 32)))
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- A block of columns, reordered and transposed. -/
def xTurn (v : Vec Ideal S256x128 .bf16) : FVec Ideal S128x256 .bf16 :=
  have v59 : IVec S256x128 32 := select (cmpi .slt rowOrder (broadcast S256x128 0#32)) (addi rowOrder (broadcast S256x128 128#32)) rowOrder
  have v60 : IVec S256x128 32 := shapeCast S256x128 (shapeCast S256x128x1 v59 shapeCasts_S256x128_S256x128x1) shapeCasts_S256x128x1_S256x128
  transpose S128x256 [1, 0] (truncf .bf16 (dynamicGather 1 (extf .f32 (shapeCast S256x128 v shapeCasts_S256x128_S256x128)
    bitsLt_bf16_f32) v60) bitsLt_bf16_f32) transposes_S256x128_p1_0_S128x256

/-- The piece of remainder `i` of a block of columns. -/
def xPiece (i : Fin 4) (v : Vec Ideal S256x128 .bf16) : FVec Ideal S1x32x256 .bf16 :=
  shapeCast S1x32x256 (extractStridedSlice S32x256 ![32 * i.val, 0] (xTurn v) (slices_field i)) shapeCasts_S32x256_S1x32x256

theorem laneOrder_at (a : Fin 8) (l : Fin 128) : laneOrder (ix2 a l) = BitVec.ofNat 32 (4 * (l.val % 32) + l.val / 32) := by
  have h : ∀ l : Fin 128, laneOrder (ix2 0 l) = BitVec.ofNat 32 (4 * (l.val % 32) + l.val / 32) := by decide
  exact h l

theorem rowOrder_at (m : Fin 256) (l : Fin 128) : rowOrder (ix2 m l) = BitVec.ofNat 32 (4 * (l.val % 32) + l.val / 32) := by
  rw [← laneOrder_at ⟨m.val % 8, by omega⟩ l]
  refine concatenate_replicate_apply (t := S256x128) (s₁ := S8x128) 0 32 laneOrder _ rfl (ix2 m l) (ix2 ⟨m.val % 8, by omega⟩ l) rfl ?_
  intro b hb
  match b with
  | ⟨0, _⟩ => exact absurd rfl hb
  | ⟨1, _⟩ => rfl

theorem xTurn_at (v : Vec Ideal S256x128 .bf16) (l : Fin 128) (m : Fin 256) :
    xTurn v (ix2 l m) = v (ix2 m ⟨4 * (l.val % 32) + l.val / 32, by omega⟩) := by
  have hw : ∀ l : Fin 128, (Scalar.select (IntOp.cmpi .slt (BitVec.ofNat 32 (4 * (l.val % 32) + l.val / 32)) 0#32)
      (IntOp.addi (BitVec.ofNat 32 (4 * (l.val % 32) + l.val / 32)) 128#32)
      (BitVec.ofNat 32 (4 * (l.val % 32) + l.val / 32))).toNat % 128 = 4 * (l.val % 32) + l.val / 32 := by decide
  unfold xTurn
  pointwise
  congr 2
  exact Fin.ext (by simp only [rowOrder_at, hw])

/-- A piece at row `r`, column `m`: column `4 r + i` of the block at row `m`. -/
theorem xPiece_at (i : Fin 4) (v : Vec Ideal S256x128 .bf16) (r : Fin 32) (m : Fin 256) :
    xPiece i v (ix3 0 r m) = v (ix2 m ⟨4 * r.val + i.val, by omega⟩) := by
  have h : xPiece i v (ix3 0 r m) = xTurn v (ix2 ⟨32 * i.val + r.val, by omega⟩ m) := by
    unfold xPiece
    generalize xTurn v = z
    pointwise
  rw [h, xTurn_at]
  congr 2
  exact Fin.ext (by show 4 * ((32 * i.val + r.val) % 32) + (32 * i.val + r.val) / 32 = 4 * r.val + i.val; omega)

/-! ## The stores -/

theorem inb_xLoad (tb : Fin 16) (q : Fin 4) :
    ∀ a, (![0, 128 * (4 * tb.val + q.val)] : Fin 2 → ℕ) a + S256x128.size a ≤ S256x8192.size a := by
  intro a
  match a with
  | ⟨0, _⟩ => show 0 + 256 ≤ 256; omega
  | ⟨1, _⟩ => show 128 * (4 * tb.val + q.val) + 128 ≤ 8192; omega

theorem inb_xStore (tb : Fin 16) (q i : Fin 4) :
    ∀ a, (![tb.val, 128 * i.val + 32 * q.val, 0] : Fin 3 → ℕ) a + S1x32x256.size a ≤ S16x512x256.size a := by
  intro a
  match a with
  | ⟨0, _⟩ => show tb.val + 1 ≤ 16; omega
  | ⟨1, _⟩ => show 128 * i.val + 32 * q.val + 32 ≤ 512; omega
  | ⟨2, _⟩ => show 0 + 256 ≤ 256; omega

section
variable (arg1 : Memref sig .tc .vmem S256x8192 .bf16) (harg1 : arg1.IsWhole) (x0 : Vec Ideal S256x8192 .bf16)

/-- A block of columns, as loaded. -/
def xLoad (tb : Fin 16) (q : Fin 4) : Vec Ideal S256x128 .bf16 :=
  View.readAt (Elt Ideal) arg1.view
    (Rect.unit (s := S256x8192) ![0, 128 * (4 * tb.val + q.val)] S256x128.size (inb_xLoad tb q)).toLoadRect (harg1.unread x0)

/-- The store of one piece. -/
def xStore (tb : Fin 16) (q i : Fin 4) : View.Piece (Elt Ideal) S16x512x256 .bf16 :=
  ⟨Rect.unit ![tb.val, 128 * i.val + 32 * q.val, 0] S1x32x256.size (inb_xStore tb q i), xPiece i (xLoad arg1 harg1 x0 tb q)⟩
end

/-- A list over four quarters and four fields, last first. -/
def downQuarters {α : Type} (f : Fin 4 → Fin 4 → α) (L : List α) : List α :=
  downFields (f 3) <| downFields (f 2) <| downFields (f 1) <| downFields (f 0) L

def downSlabs {α : Type} (f : Fin 16 → Fin 4 → Fin 4 → α) : List α :=
  downQuarters (f 15) <| downQuarters (f 14) <| downQuarters (f 13) <| downQuarters (f 12) <|
  downQuarters (f 11) <| downQuarters (f 10) <| downQuarters (f 9) <| downQuarters (f 8) <|
  downQuarters (f 7) <| downQuarters (f 6) <| downQuarters (f 5) <| downQuarters (f 4) <|
  downQuarters (f 3) <| downQuarters (f 2) <| downQuarters (f 1) <| downQuarters (f 0) []

/-- The stores the first grid point records are the pieces. -/
theorem xStores_first (c : Dev nD) (arg1 : Memref sig .tc .vmem S256x8192 .bf16) (harg1 : arg1.IsWhole)
    (x0 : Vec Ideal S256x8192 .bf16) :
    kernelRun0_A.sl.HS0_256 c arg1 harg1 x0 = downSlabs (xStore arg1 harg1 x0) := by
  sl_kernel_rfl

end Cert.KernelIdeal.Val
-- ==== Proof.Held.lean ====
/-
  What the stores leave. The two matrices the product reads, index by index: the decoded weights (`wMat`) and the
  reordered input (`xMat`), and that the lists of stores leave them.
-/
module

public import proofs.«01_k».proof.Proof.XBlock

@[expose] public section

set_option maxRecDepth 16384

noncomputable section

namespace Cert.KernelIdeal.Val

open Idealize.ShloMosaic Cert.KernelIdeal Cert.KernelIdeal.Gen Cert.Fp6

/-! ## The lists of stores, by their members -/

theorem mem_downFields {α : Type} (f : Fin 4 → α) (L : List α) (p : α) :
    p ∈ downFields f L ↔ (∃ i, p = f i) ∨ p ∈ L := by
  simp only [downFields, List.mem_cons]
  constructor
  · rintro (h | h | h | h | h)
    all_goals first | exact .inl ⟨_, h⟩ | exact .inr h
  · rintro (⟨i, h⟩ | h)
    · fin_cases i <;> simp at h <;> simp [h]
    · simp [h]

theorem mem_downRows {α : Type} (f : Fin 8 → Fin 4 → α) (L : List α) (p : α) :
    p ∈ downRows f L ↔ (∃ nb i, p = f nb i) ∨ p ∈ L := by
  simp only [downRows, mem_downFields]
  constructor
  · rintro (⟨i, h⟩ | ⟨i, h⟩ | ⟨i, h⟩ | ⟨i, h⟩ | ⟨i, h⟩ | ⟨i, h⟩ | ⟨i, h⟩ | ⟨i, h⟩ | h)
    all_goals first | exact .inl ⟨_, _, h⟩ | exact .inr h
  · rintro (⟨nb, i, h⟩ | h)
    · fin_cases nb <;> simp at h <;> simp [h]
    · simp [h]

theorem mem_downCols {α : Type} (f : Fin 16 → Fin 8 → Fin 4 → α) (p : α) :
    p ∈ downCols f ↔ ∃ jb nb i, p = f jb nb i := by
  simp only [downCols, mem_downRows]
  constructor
  · rintro (⟨n, i, h⟩ | ⟨n, i, h⟩ | ⟨n, i, h⟩ | ⟨n, i, h⟩ | ⟨n, i, h⟩ | ⟨n, i, h⟩ | ⟨n, i, h⟩ | ⟨n, i, h⟩ |
      ⟨n, i, h⟩ | ⟨n, i, h⟩ | ⟨n, i, h⟩ | ⟨n, i, h⟩ | ⟨n, i, h⟩ | ⟨n, i, h⟩ | ⟨n, i, h⟩ | ⟨n, i, h⟩ | h)
    all_goals first | exact ⟨_, _, _, h⟩ | exact absurd h List.not_mem_nil
  · rintro ⟨jb, nb, i, h⟩
    fin_cases jb <;> simp at h <;> simp [h]

theorem mem_downQuarters {α : Type} (f : Fin 4 → Fin 4 → α) (L : List α) (p : α) :
    p ∈ downQuarters f L ↔ (∃ q i, p = f q i) ∨ p ∈ L := by
  simp only [downQuarters, mem_downFields]
  constructor
  · rintro (⟨i, h⟩ | ⟨i, h⟩ | ⟨i, h⟩ | ⟨i, h⟩ | h)
    all_goals first | exact .inl ⟨_, _, h⟩ | exact .inr h
  · rintro (⟨q, i, h⟩ | h)
    · fin_cases q <;> simp at h <;> simp [h]
    · simp [h]

theorem mem_downSlabs {α : Type} (f : Fin 16 → Fin 4 → Fin 4 → α) (p : α) :
    p ∈ downSlabs f ↔ ∃ tb q i, p = f tb q i := by
  simp only [downSlabs, mem_downQuarters]
  constructor
  · rintro (⟨n, i, h⟩ | ⟨n, i, h⟩ | ⟨n, i, h⟩ | ⟨n, i, h⟩ | ⟨n, i, h⟩ | ⟨n, i, h⟩ | ⟨n, i, h⟩ | ⟨n, i, h⟩ |
      ⟨n, i, h⟩ | ⟨n, i, h⟩ | ⟨n, i, h⟩ | ⟨n, i, h⟩ | ⟨n, i, h⟩ | ⟨n, i, h⟩ | ⟨n, i, h⟩ | ⟨n, i, h⟩ | h)
    all_goals first | exact ⟨_, _, _, h⟩ | exact absurd h List.not_mem_nil
  · rintro ⟨tb, q, i, h⟩
    fin_cases tb <;> simp at h <;> simp [h]

/-- A list whose stores are all blocks of `G`, at an index one of them covers, leaves `G` there. -/
theorem canon_of_stores {S : Shape} {e : EltTy} (G : S.Idx → Elt Ideal e) (L : List (View.Piece (Elt Ideal) S e))
    (hG : ∀ p ∈ L, ∀ x : p.1.shape.Idx, p.2 x = G (p.1.emb x)) (y : S.Idx) (hy : ∃ p ∈ L, y ∈ p.1.set) :
    View.canon L y = G y := by
  rw [← View.canon_append_of_pieces G [] L hG y hy, List.append_nil]

/-! ## The decoded weights -/

/-- The scale of row `n`, group `l`, as the kernel keeps it: rounded and two hundred and fifty-six times as large. -/
def gMat (x2 : Vec Ideal S64x256 .f32) (n : Fin 256) (l : Fin 64) : EReal :=
  x2 (ix2 l n) * Ideal.ofBits .f32 0x3D800000#32 * Ideal.ofBits .f32 0x43800000#32

/-- The decoded weight of row `n`, byte column `J`, field `i`. -/
def wVal (x1 : Vec Ideal S3x256x2048 .i8) (x2 : Vec Ideal S64x256 .f32) (n : Fin 256) (J : Fin 2048) (i : Fin 4) : EReal :=
  (((fp6 (code i (x1 (ix3 0 n J)) (x1 (ix3 1 n J)) (x1 (ix3 2 n J))) : ℝ) / 256 : ℝ) : EReal)
    * gMat x2 n ⟨J.val / 32, by omega⟩

/-- The decoded weights: column `512 jb + 128 i + j` holds field `i` of byte column `128 jb + j`. -/
def wMat (x1 : Vec Ideal S3x256x2048 .i8) (x2 : Vec Ideal S64x256 .f32) : S256x8192.Idx → EReal := fun y =>
  have k : Fin 8192 := y 1
  wVal x1 x2 (y 0) ⟨128 * (k.val / 512) + k.val % 128, by omega⟩ ⟨k.val % 512 / 128, by omega⟩

section
variable (arg2 : Memref sig .tc .vmem S3x256x2048 .i8) (harg2 : arg2.IsWhole)
  (arg3 : Memref sig .tc .vmem S64x256 .f32) (harg3 : arg3.IsWhole)
  (x1 : Vec Ideal S3x256x2048 .i8) (x2 : Vec Ideal S64x256 .f32)

theorem wLoad_at (p : Fin 3) (jb : Fin 16) (nb : Fin 8) (r : Fin 32) (l : Fin 128) :
    wLoad arg2 harg2 x1 p jb nb (ix3 0 r l) = x1 (ix3 p ⟨32 * nb.val + r.val, by omega⟩ ⟨128 * jb.val + l.val, by omega⟩) := by
  unfold wLoad
  rw [View.readAt_eq_ld, harg2.read_unread]
  refine View.ld_unit_apply_of _ _ _ _ _ _ fun a => ?_
  match a with
  | ⟨0, _⟩ => rfl
  | ⟨1, _⟩ => rfl
  | ⟨2, _⟩ => rfl

theorem gLoad_at (n : Fin 256) (l : Fin 64) : gLoad arg3 harg3 x2 (ix2 n ⟨l.val, by omega⟩) = gMat x2 n l := by
  have h : View.readAt (Elt Ideal) arg3.view (Rect.unit ![0, 0] S64x256.size inb_S64x256_S64x256_0_0).toLoadRect (harg3.unread x2)
      = x2 := by
    rw [View.readAt_eq_ld, harg3.read_unread]
    funext y
    refine View.ld_unit_apply_of _ _ _ _ _ _ fun a => ?_
    match a with
    | ⟨0, _⟩ => exact (Nat.zero_add _).symm
    | ⟨1, _⟩ => exact (Nat.zero_add _).symm
  unfold gLoad
  rw [h]
  unfold k0_pay368 gMat
  pointwise

/-- Where a block of the decoded weights is stored. -/
theorem wStore_idx (jb : Fin 16) (nb : Fin 8) (i : Fin 4) (x : S32x128.Idx) (a : Fin 2) :
    ((wStore arg2 harg2 arg3 harg3 x1 x2 jb nb i).1.idx x a).val
      = (![32 * nb.val, 512 * jb.val + 128 * i.val] : Fin 2 → ℕ) a + (x a).val :=
  Rect.idx_unit_val (s := S256x8192) ![32 * nb.val, 512 * jb.val + 128 * i.val] S32x128.size (inb_wStore jb nb i) x a

theorem wStore_at (jb : Fin 16) (nb : Fin 8) (i : Fin 4) (x : (wStore arg2 harg2 arg3 harg3 x1 x2 jb nb i).1.shape.Idx) :
    (wStore arg2 harg2 arg3 harg3 x1 x2 jb nb i).2 x
      = wMat x1 x2 ((wStore arg2 harg2 arg3 harg3 x1 x2 jb nb i).1.emb x) := by
  change S32x128.Idx at x
  obtain ⟨r, l, rfl⟩ : ∃ (r : Fin 32) (l : Fin 128), x = ix2 r l := ⟨x 0, x 1, eq_ix2 x⟩
  have hemb : (wStore arg2 harg2 arg3 harg3 x1 x2 jb nb i).1.emb (ix2 r l : S32x128.Idx)
      = ix2 (⟨32 * nb.val + r.val, by omega⟩ : Fin 256) (⟨512 * jb.val + 128 * i.val + l.val, by omega⟩ : Fin 8192) := by
    funext a
    match a with
    | ⟨0, _⟩ => exact Fin.ext (wStore_idx arg2 harg2 arg3 harg3 x1 x2 jb nb i _ 0)
    | ⟨1, _⟩ => exact Fin.ext (wStore_idx arg2 harg2 arg3 harg3 x1 x2 jb nb i _ 1)
  rw [hemb]
  refine (wPiece_at i _ _ _ _ r l).trans ?_
  rw [scaleOf_at, wLoad_at, wLoad_at, wLoad_at]
  have hg := gLoad_at arg3 harg3 x2 ⟨32 * nb.val + r.val, by omega⟩ ⟨4 * jb.val + l.val / 32, by omega⟩
  rw [hg]
  show _ = wVal x1 x2 ⟨32 * nb.val + r.val, _⟩
    ⟨128 * ((512 * jb.val + 128 * i.val + l.val) / 512) + (512 * jb.val + 128 * i.val + l.val) % 128, _⟩
    ⟨(512 * jb.val + 128 * i.val + l.val) % 512 / 128, _⟩
  have e1 : (⟨128 * ((512 * jb.val + 128 * i.val + l.val) / 512) + (512 * jb.val + 128 * i.val + l.val) % 128, by omega⟩ : Fin 2048)
      = ⟨128 * jb.val + l.val, by omega⟩ := Fin.ext (by
        show 128 * ((512 * jb.val + 128 * i.val + l.val) / 512) + (512 * jb.val + 128 * i.val + l.val) % 128 = 128 * jb.val + l.val
        omega)
  have e2 : (⟨(512 * jb.val + 128 * i.val + l.val) % 512 / 128, by omega⟩ : Fin 4) = i := Fin.ext (by
        show (512 * jb.val + 128 * i.val + l.val) % 512 / 128 = i.val
        omega)
  rw [e1, e2]
  unfold wVal
  have e3 : (⟨4 * jb.val + l.val / 32, by omega⟩ : Fin 64) = ⟨(128 * jb.val + l.val) / 32, by omega⟩ := Fin.ext (by
        show 4 * jb.val + l.val / 32 = (128 * jb.val + l.val) / 32
        omega)
  rw [e3]

/-- The stores of the decoded weights leave `wMat`. -/
theorem wStores_leave : View.canon (downCols (wStore arg2 harg2 arg3 harg3 x1 x2)) = wMat x1 x2 := by
  funext y
  refine canon_of_stores (S := S256x8192) (e := .bf16) (wMat x1 x2) _ ?_ y ?_
  · intro p hp
    obtain ⟨jb, nb, i, rfl⟩ := (mem_downCols _ _).mp hp
    exact wStore_at arg2 harg2 arg3 harg3 x1 x2 jb nb i
  · obtain ⟨n, k, rfl⟩ : ∃ (n : Fin 256) (k : Fin 8192), y = ix2 n k := ⟨y 0, y 1, eq_ix2 y⟩
    refine ⟨wStore arg2 harg2 arg3 harg3 x1 x2 ⟨k.val / 512, by omega⟩ ⟨n.val / 32, by omega⟩ ⟨k.val % 512 / 128, by omega⟩,
      (mem_downCols _ _).mpr ⟨_, _, _, rfl⟩, ?_⟩
    refine (Rect.mem_set_unit (inb := inb_wStore ⟨k.val / 512, by omega⟩ ⟨n.val / 32, by omega⟩ ⟨k.val % 512 / 128, by omega⟩)).mpr fun a => ?_
    match a with
    | ⟨0, _⟩ => show 32 * (n.val / 32) ≤ n.val ∧ n.val < 32 * (n.val / 32) + 32; omega
    | ⟨1, _⟩ =>
      show 512 * (k.val / 512) + 128 * (k.val % 512 / 128) ≤ k.val
        ∧ k.val < 512 * (k.val / 512) + 128 * (k.val % 512 / 128) + 128
      omega
end

/-! ## The reordered input -/

/-- The reordered input: slab `tb`, row `128 i + j` holds column `4 (128 tb + j) + i`. -/
def xMat (x0 : Vec Ideal S256x8192 .bf16) : S16x512x256.Idx → EReal := fun y =>
  have tb : Fin 16 := y 0
  have k : Fin 512 := y 1
  have m : Fin 256 := y 2
  x0 (ix2 m (⟨4 * (128 * tb.val + k.val % 128) + k.val / 128, by omega⟩ : Fin 8192))

section
variable (arg1 : Memref sig .tc .vmem S256x8192 .bf16) (harg1 : arg1.IsWhole) (x0 : Vec Ideal S256x8192 .bf16)

theorem xLoad_at (tb : Fin 16) (q : Fin 4) (m : Fin 256) (l : Fin 128) :
    xLoad arg1 harg1 x0 tb q (ix2 m l) = x0 (ix2 m ⟨128 * (4 * tb.val + q.val) + l.val, by omega⟩) := by
  unfold xLoad
  rw [View.readAt_eq_ld, harg1.read_unread]
  refine View.ld_unit_apply_of _ _ _ _ _ _ fun a => ?_
  match a with
  | ⟨0, _⟩ => exact (Nat.zero_add _).symm
  | ⟨1, _⟩ => rfl

/-- Where a piece of the reordered input is stored. -/
theorem xStore_idx (tb : Fin 16) (q i : Fin 4) (x : S1x32x256.Idx) (a : Fin 3) :
    ((xStore arg1 harg1 x0 tb q i).1.idx x a).val
      = (![tb.val, 128 * i.val + 32 * q.val, 0] : Fin 3 → ℕ) a + (x a).val :=
  Rect.idx_unit_val (s := S16x512x256) ![tb.val, 128 * i.val + 32 * q.val, 0] S1x32x256.size (inb_xStore tb q i) x a

theorem xStore_at (tb : Fin 16) (q i : Fin 4) (x : (xStore arg1 harg1 x0 tb q i).1.shape.Idx) :
    (xStore arg1 harg1 x0 tb q i).2 x = xMat x0 ((xStore arg1 harg1 x0 tb q i).1.emb x) := by
  change S1x32x256.Idx at x
  obtain ⟨u, r, m, rfl⟩ : ∃ (u : Fin 1) (r : Fin 32) (m : Fin 256), x = ix3 u r m := ⟨x 0, x 1, x 2, eq_ix3 x⟩
  obtain rfl : u = 0 := Subsingleton.elim _ _
  have hemb : (xStore arg1 harg1 x0 tb q i).1.emb (ix3 0 r m : S1x32x256.Idx)
      = ix3 (⟨tb.val, by omega⟩ : Fin 16) (⟨128 * i.val + 32 * q.val + r.val, by omega⟩ : Fin 512) (⟨m.val, by omega⟩ : Fin 256) := by
    funext a
    match a with
    | ⟨0, _⟩ => exact Fin.ext (xStore_idx arg1 harg1 x0 tb q i _ 0)
    | ⟨1, _⟩ => exact Fin.ext (xStore_idx arg1 harg1 x0 tb q i _ 1)
    | ⟨2, _⟩ => exact Fin.ext ((xStore_idx arg1 harg1 x0 tb q i _ 2).trans (Nat.zero_add _))
  rw [hemb]
  refine (xPiece_at i _ r m).trans ?_
  rw [xLoad_at]
  refine congrArg (fun k => x0 (ix2 m k)) (Fin.ext ?_)
  show 128 * (4 * tb.val + q.val) + (4 * r.val + i.val)
    = 4 * (128 * tb.val + (128 * i.val + 32 * q.val + r.val) % 128) + (128 * i.val + 32 * q.val + r.val) / 128
  omega

/-- The stores of the reordered input leave `xMat`. -/
theorem xStores_leave : View.canon (downSlabs (xStore arg1 harg1 x0)) = xMat x0 := by
  funext y
  refine canon_of_stores (S := S16x512x256) (e := .bf16) (xMat x0) _ ?_ y ?_
  · intro p hp
    obtain ⟨tb, q, i, rfl⟩ := (mem_downSlabs _ _).mp hp
    exact xStore_at arg1 harg1 x0 tb q i
  · obtain ⟨tb, k, m, rfl⟩ : ∃ (tb : Fin 16) (k : Fin 512) (m : Fin 256), y = ix3 tb k m := ⟨y 0, y 1, y 2, eq_ix3 y⟩
    refine ⟨xStore arg1 harg1 x0 tb ⟨k.val % 128 / 32, by omega⟩ ⟨k.val / 128, by omega⟩,
      (mem_downSlabs _ _).mpr ⟨_, _, _, rfl⟩, ?_⟩
    refine (Rect.mem_set_unit (inb := inb_xStore tb ⟨k.val % 128 / 32, by omega⟩ ⟨k.val / 128, by omega⟩)).mpr fun a => ?_
    match a with
    | ⟨0, _⟩ => show tb.val ≤ tb.val ∧ tb.val < tb.val + 1; omega
    | ⟨1, _⟩ =>
      show 128 * (k.val / 128) + 32 * (k.val % 128 / 32) ≤ k.val ∧ k.val < 128 * (k.val / 128) + 32 * (k.val % 128 / 32) + 32
      omega
    | ⟨2, _⟩ => show 0 ≤ m.val ∧ m.val < 0 + 256; omega
end

end Cert.KernelIdeal.Val
-- ==== Proof.KernelBlock.lean ====
/-
  One grid point's block of the result: the product of the two stored matrices, scaled row by row, whether the point
  fills the scratch of the reordered input itself or finds it filled.
-/
module

public import proofs.«01_k».proof.Proof.Held
public import proofs.«01_k».proof.Proof.Gen.KernelIdeal.Frame

@[expose] public section

set_option maxRecDepth 16384

noncomputable section

namespace Cert.KernelIdeal.Val

open Idealize.ShloMosaic Idealize.ShloMosaic.TcCoe Cert.KernelIdeal Cert.KernelIdeal.Gen Cert.Fp6

/-- What a point stores: row `m` of the input against row `n` of the decoded weights, times the row's scale. -/
def yMat (x1 : Vec Ideal S3x256x2048 .i8) (x2 : Vec Ideal S64x256 .f32) (x3 : Vec Ideal S1x256 .f32)
    (xt : S16x512x256.Idx → EReal) : S256x256.Idx → EReal := fun y =>
  have m : Fin 256 := y 0
  have n : Fin 256 := y 1
  (∑ k : Fin 8192, wMat x1 x2 (ix2 n k) * xt (ix3 (⟨k.val / 512, by omega⟩ : Fin 16) (⟨k.val % 512, by omega⟩ : Fin 512) m))
    * x3 (ix2 (0 : Fin 1) n)

/-- The slabs read as one matrix. -/
theorem slabs_at (xt : Vec Ideal S16x512x256 .bf16) (k : Fin 8192) (m : Fin 256) :
    shapeCast S8192x256 xt shapeCasts_S16x512x256_S8192x256 (ix2 k m)
      = xt (ix3 (⟨k.val / 512, by omega⟩ : Fin 16) (⟨k.val % 512, by omega⟩ : Fin 512) m) := by
  pointwise

theorem pay_at (wd : Vec Ideal S256x8192 .bf16) (xt : Vec Ideal S16x512x256 .bf16) (ws : Vec Ideal S1x256 .f32)
    (m n : Fin 256) :
    k0_pay2 wd xt ws (ix2 m n)
      = (∑ k : Fin 8192, wd (ix2 n k) * xt (ix3 (⟨k.val / 512, by omega⟩ : Fin 16) (⟨k.val % 512, by omega⟩ : Fin 512) m))
        * ws (ix2 (0 : Fin 1) n) := by
  unfold k0_pay2
  pointwise

section
variable (c : Dev nD) (i : grid0.Coords)
  (arg1 : Memref sig .tc .vmem S256x8192 .bf16) (harg1 : arg1.IsWhole)
  (arg2 : Memref sig .tc .vmem S3x256x2048 .i8) (harg2 : arg2.IsWhole)
  (arg3 : Memref sig .tc .vmem S64x256 .f32) (harg3 : arg3.IsWhole)
  (arg4 : Memref sig .tc .vmem S1x256 .f32) (harg4 : arg4.IsWhole)
  (arg5 : Memref sig .tc .vmem S256x256 .bf16) (harg5 : arg5.IsWhole)
  (arg6 : Memref sig .tc .vmem S16x512x256 .bf16) (harg6 : arg6.IsWhole)
  (arg7 : Memref sig .tc .vmem S256x8192 .bf16) (harg7 : arg7.IsWhole)
  (x0 : Vec Ideal S256x8192 .bf16) (x1 : Vec Ideal S3x256x2048 .i8) (x2 : Vec Ideal S64x256 .f32)
  (x3 : Vec Ideal S1x256 .f32) (xs0 : Vec Ideal S16x512x256 .bf16)

/-- A load of a whole buffer reads it. -/
theorem readAt_ws : View.readAt (Elt Ideal) arg4.view (Rect.unit (s := S1x256) ![0, 0] S1x256.size inb_S1x256_S1x256_0_0).toLoadRect
    (harg4.unread x3) = x3 := by
  rw [View.readAt_eq_ld, harg4.read_unread]
  exact View.ld_unit_zero (S := S1x256) (funext fun a => by fin_cases a <;> rfl) _ _

theorem readAt_xt : View.readAt (Elt Ideal) arg6.view
    (Rect.unit (s := S16x512x256) ![0, 0, 0] S16x512x256.size inb_S16x512x256_S16x512x256_0_0_0).toLoadRect (harg6.unread xs0) = xs0 := by
  rw [View.readAt_eq_ld, harg6.read_unread]
  exact View.ld_unit_zero (S := S16x512x256) (funext fun a => by fin_cases a <;> rfl) _ _

/-- A load of the whole buffer of decoded weights after the stores reads `wMat`. -/
theorem readCov_wd (L : List (View.Piece (Elt Ideal) S256x8192 .bf16)) (hL : L = downCols (wStore arg2 harg2 arg3 harg3 x1 x2)) :
    arg7.view.readCov L (Rect.unit (s := S256x8192) ![0, 0] S256x8192.size inb_S256x8192_S256x8192_0_0).toLoadRect = wMat x1 x2 := by
  subst hL
  rw [View.readCov_eq_canon', wStores_leave]
  funext j
  refine congrArg (wMat x1 x2) (funext fun a => Fin.ext ?_)
  match a with
  | ⟨0, _⟩ => show 0 + 1 * (j 0).val = (j 0).val; omega
  | ⟨1, _⟩ => show 0 + 1 * (j 1).val = (j 1).val; omega

/-- A load of the whole buffer of the reordered input after the stores reads `xMat`. -/
theorem readCov_xt (L : List (View.Piece (Elt Ideal) S16x512x256 .bf16)) (hL : L = downSlabs (xStore arg1 harg1 x0)) :
    arg6.view.readCov L (Rect.unit (s := S16x512x256) ![0, 0, 0] S16x512x256.size inb_S16x512x256_S16x512x256_0_0_0).toLoadRect
      = xMat x0 := by
  subst hL
  rw [View.readCov_eq_canon', xStores_leave]
  funext j
  refine congrArg (xMat x0) (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- A store of a whole block, read back. -/
theorem canon_whole (v : FVec Ideal S256x256 .bf16) :
    View.canon [(⟨Rect.unit (s := S256x256) ![0, 0] S256x256.size inb_S256x256_S256x256_0_0, v⟩ : View.Piece (Elt Ideal) S256x256 .bf16)] = v :=
  View.canon_unit_zero (S := S256x256) (funext fun a => by fin_cases a <;> rfl) _ _

/-- A later point's block, over the scratch as the point before left it. -/
theorem out_later (hc0 : ¬cond0_0 i) :
    out0_B_4 c i arg1 harg1 arg2 harg2 arg3 harg3 arg4 harg4 arg5 harg5 arg6 harg6 arg7 harg7 hc0 x0 x1 x2 x3 xs0
      = yMat x1 x2 x3 xs0 := by
  unfold out0_B_4
  rw [View.read_writes_junk_eq_canon]
  have h : (kernelRun0_B c i arg1 harg1 arg2 harg2 arg3 harg3 arg4 harg4 arg5 harg5 arg6 harg6 arg7 harg7 hc0 x0 x1 x2 x3 xs0).1
      = [(⟨Rect.unit (s := S256x256) ![0, 0] S256x256.size inb_S256x256_S256x256_0_0,
          k0_pay2 (arg7.view.readCov (kernelRun0_B.sl.HS1_512 c arg2 harg2 arg3 harg3 x1 x2)
              (Rect.unit (s := S256x8192) ![0, 0] S256x8192.size inb_S256x8192_S256x8192_0_0).toLoadRect)
            (View.readAt (Elt Ideal) arg6.view
              (Rect.unit (s := S16x512x256) ![0, 0, 0] S16x512x256.size inb_S16x512x256_S16x512x256_0_0_0).toLoadRect (harg6.unread xs0))
            (View.readAt (Elt Ideal) arg4.view (Rect.unit (s := S1x256) ![0, 0] S1x256.size inb_S1x256_S1x256_0_0).toLoadRect
              (harg4.unread x3))⟩ : View.Piece (Elt Ideal) S256x256 .bf16)] := by
    sl_kernel_rfl
  rw [h, canon_whole, readCov_wd arg2 harg2 arg3 harg3 arg7 x1 x2 _ (wStores_later c arg2 harg2 arg3 harg3 x1 x2),
    readAt_ws, readAt_xt]
  funext y
  obtain ⟨m, n, rfl⟩ : ∃ (m n : Fin 256), y = ix2 m n := ⟨y 0, y 1, eq_ix2 y⟩
  exact pay_at _ _ _ m n

/-- The first point's block, over the scratch as it fills it. -/
theorem out_first (hc0 : cond0_0 i) :
    out0_A_4 c i arg1 harg1 arg2 harg2 arg3 harg3 arg4 harg4 arg5 harg5 arg6 harg6 arg7 harg7 hc0 x0 x1 x2 x3
      = yMat x1 x2 x3 (xMat x0) := by
  unfold out0_A_4
  rw [View.read_writes_junk_eq_canon]
  have h : (kernelRun0_A c i arg1 harg1 arg2 harg2 arg3 harg3 arg4 harg4 arg5 harg5 arg6 harg6 arg7 harg7 hc0 x0 x1 x2 x3).1
      = [(⟨Rect.unit (s := S256x256) ![0, 0] S256x256.size inb_S256x256_S256x256_0_0,
          k0_pay2 (arg7.view.readCov (kernelRun0_A.sl.HS1_512 c arg2 harg2 arg3 harg3 x1 x2)
              (Rect.unit (s := S256x8192) ![0, 0] S256x8192.size inb_S256x8192_S256x8192_0_0).toLoadRect)
            (arg6.view.readCov (kernelRun0_A.sl.HS0_256 c arg1 harg1 x0)
              (Rect.unit (s := S16x512x256) ![0, 0, 0] S16x512x256.size inb_S16x512x256_S16x512x256_0_0_0).toLoadRect)
            (View.readAt (Elt Ideal) arg4.view (Rect.unit (s := S1x256) ![0, 0] S1x256.size inb_S1x256_S1x256_0_0).toLoadRect
              (harg4.unread x3))⟩ : View.Piece (Elt Ideal) S256x256 .bf16)] := by
    sl_kernel_rfl
  rw [h, canon_whole, readCov_wd arg2 harg2 arg3 harg3 arg7 x1 x2 _ (wStores_first c arg2 harg2 arg3 harg3 x1 x2),
    readCov_xt arg1 harg1 arg6 x0 _ (xStores_first c arg1 harg1 x0), readAt_ws]
  funext y
  obtain ⟨m, n, rfl⟩ : ∃ (m n : Fin 256), y = ix2 m n := ⟨y 0, y 1, eq_ix2 y⟩
  exact pay_at _ _ _ m n

/-- The scratch of the reordered input after the first point. -/
theorem scratch_first (hc0 : cond0_0 i) :
    sout0_A_0 c i arg1 harg1 arg2 harg2 arg3 harg3 arg4 harg4 arg5 harg5 arg6 harg6 arg7 harg7 hc0 x0 x1 x2 x3 = xMat x0 := by
  unfold sout0_A_0
  rw [View.read_writes_junk_eq_canon]
  have h : (kernelRun0_A c i arg1 harg1 arg2 harg2 arg3 harg3 arg4 harg4 arg5 harg5 arg6 harg6 arg7 harg7 hc0 x0 x1 x2 x3).2.1
      = kernelRun0_A.sl.HS0_256 c arg1 harg1 x0 := by
    sl_kernel_rfl
  rw [h, xStores_first, xStores_leave]
end

end Cert.KernelIdeal.Val
-- ==== Proof.Equation.lean ====
/-
  The mathematics both programs compute, and why the kernel's way of computing it is the same: the powers of two its
  scales carry cancel, and its order of the summation index is a rearrangement.
-/
module

public import proofs.«01_k».proof.Proof.Decode
public import Idealize.ShloMosaic.Lib.Pipeline.ValueKit

@[expose] public section

noncomputable section

namespace Cert.Fp6

open Idealize.ShloMosaic

/-- The scale of a group as the reference keeps it. -/
def groupScale (g : EReal) : EReal := g * Ideal.ofBits .f32 0x3D800000#32

/-- The value of one weight. -/
def weight (w : Fin 3 → BitVec 8) (g : EReal) (i : Fin 4) : EReal :=
  (((fp6 (code i (w 0) (w 1) (w 2)) : ℝ)) : EReal) * groupScale g

/-- The linear layer: input row `m` against weight row `n`, scaled. Byte triple `J` holds the weights of the four
columns `4 J + i`, and thirty-two triples share a group. -/
def linear (X : Fin 256 → Fin 8192 → EReal) (W : Fin 7424 → Fin 2048 → Fin 3 → BitVec 8) (G : Fin 7424 → Fin 64 → EReal)
    (S : Fin 7424 → EReal) (m : Fin 256) (n : Fin 7424) : EReal :=
  (∑ i : Fin 4, ∑ J : Fin 2048, X m ⟨4 * J.val + i.val, by omega⟩ * weight (W n J) (G n ⟨J.val / 32, by omega⟩) i) * S n

/-- A two hundred and fifty-sixth of the integer against two hundred and fifty-six times the scale. -/
theorem scaled (a : ℤ) (g : EReal) :
    (((a : ℝ) / 256 : ℝ) : EReal) * (groupScale g * Ideal.ofBits .f32 0x43800000#32) = ((a : ℝ) : EReal) * groupScale g := by
  have h : Ideal.ofBits .f32 0x43800000#32 = ((256 : ℝ) : EReal) := by
    simp only [Ideal.ofBits, Ideal.ieee]
    simp
    rw [← EReal.coe_mul]
    norm_num
  rw [h, mul_comm (groupScale g), ← mul_assoc, ← EReal.coe_mul]
  congr 2
  ring

/-- The kernel's order of the index, `512 jb + 128 i + j`, against the reference's, `(i, 128 jb + j)`. -/
def order : Fin 8192 ≃ Fin 4 × Fin 2048 where
  toFun k := (⟨k.val % 512 / 128, by omega⟩, ⟨128 * (k.val / 512) + k.val % 128, by omega⟩)
  invFun p := ⟨512 * (p.2.val / 128) + 128 * p.1.val + p.2.val % 128, by omega⟩
  left_inv k := Fin.ext (by
    show 512 * ((128 * (k.val / 512) + k.val % 128) / 128) + 128 * (k.val % 512 / 128)
      + (128 * (k.val / 512) + k.val % 128) % 128 = k.val
    omega)
  right_inv p := by
    have h1 := p.1.isLt
    have h2 := p.2.isLt
    refine Prod.ext (Fin.ext ?_) (Fin.ext ?_)
    · show (512 * (p.2.val / 128) + 128 * p.1.val + p.2.val % 128) % 512 / 128 = p.1.val
      omega
    · show 128 * ((512 * (p.2.val / 128) + 128 * p.1.val + p.2.val % 128) / 512)
        + (512 * (p.2.val / 128) + 128 * p.1.val + p.2.val % 128) % 128 = p.2.val
      omega

theorem sum_reordered (f : Fin 4 → Fin 2048 → EReal) :
    ∑ k : Fin 8192, f ⟨k.val % 512 / 128, by omega⟩ ⟨128 * (k.val / 512) + k.val % 128, by omega⟩
      = ∑ i : Fin 4, ∑ J : Fin 2048, f i J := by
  rw [← Fintype.sum_prod_type']
  exact Fintype.sum_equiv order _ _ fun k => rfl

end Cert.Fp6
-- ==== Proof.KernelResult.lean ====
/-
  The kernel's result array, index by index, from its four arguments.
-/
module

public import proofs.«01_k».proof.Proof.KernelBlock
public import proofs.«01_k».proof.Proof.Equation
public import proofs.«01_k».proof.Proof.Gen.KernelIdeal.Value
public import Idealize.ShloMosaic.Lib.Pipeline.ValueKit.Held

@[expose] public section

set_option maxRecDepth 16384

noncomputable section

namespace Cert.KernelIdeal.Val

open Idealize.ShloMosaic Idealize.ShloMosaic.TcCoe Cert.KernelIdeal Cert.KernelIdeal.Gen Cert.Fp6

variable (m : (ℓ : Loc nD τ sig) → Buf (Elt Ideal) ℓ) (c : Dev nD)

/-! ## The blocks a point is given, from the arguments -/

theorem index_facts : ∀ t : Fin cfg0.N,
    win0_0.index t = ![0, 0] ∧ win0_1.index t = ![0, t.val, 0] ∧ win0_2.index t = ![0, t.val] ∧ win0_3.index t = ![0, t.val] :=
  (by decide +kernel : ∀ t : Fin grid0.N, _)

theorem lt_N (t : Fin cfg0.N) : t.val < 29 := lt_of_lt_of_eq t.isLt N_0

theorem row_lt (t : Fin cfg0.N) (r : Fin 256) : 256 * t.val + r.val < 7424 := by
  have := lt_N t
  omega

theorem x_at (t : Fin cfg0.N) (r : Fin 256) (k : Fin 8192) :
    (iblk m c 0 t : Vec Ideal S256x8192 .bf16) (ix2 r k) = m ((c : Thread nD τ).loc main_arg0) (ix3 r (0 : Fin 1) k) := by
  obtain ⟨h, -, -, -⟩ := index_facts t
  blk_ext! [iblk, V, h]

theorem w_at (t : Fin cfg0.N) (p : Fin 3) (r : Fin 256) (J : Fin 2048) :
    (iblk m c 1 t : Vec Ideal S3x256x2048 .i8) (ix3 p r J)
      = m ((c : Thread nD τ).loc main_arg1) (ix3 (⟨256 * t.val + r.val, row_lt t r⟩ : Fin 7424) J p) := by
  obtain ⟨-, h, -, -⟩ := index_facts t
  blk_ext! [iblk, V, h]

theorem g_at (t : Fin cfg0.N) (l : Fin 64) (r : Fin 256) :
    (iblk m c 2 t : Vec Ideal S64x256 .f32) (ix2 l r)
      = m ((c : Thread nD τ).loc main_arg3) (ix2 (⟨256 * t.val + r.val, row_lt t r⟩ : Fin 7424) l) := by
  obtain ⟨-, -, h, -⟩ := index_facts t
  blk_ext! [iblk, V, h]

theorem s_at (t : Fin cfg0.N) (r : Fin 256) :
    (iblk m c 3 t : Vec Ideal S1x256 .f32) (ix2 (0 : Fin 1) r)
      = m ((c : Thread nD τ).loc main_arg2) (ix1 (⟨256 * t.val + r.val, row_lt t r⟩ : Fin 7424)) := by
  obtain ⟨-, -, -, h⟩ := index_facts t
  blk_ext! [iblk, V, h]

/-! ## What each point leaves -/

/-- The input as a matrix. -/
def xArr : Vec Ideal S256x8192 .bf16 := fun y => m ((c : Thread nD τ).loc main_arg0) (ix3 (y 0) (0 : Fin 1) (y 1))

theorem x_block (t : Fin cfg0.N) : (iblk m c 0 t : Vec Ideal S256x8192 .bf16) = xArr m c := by
  funext y
  obtain ⟨r, k, rfl⟩ : ∃ (r : Fin 256) (k : Fin 8192), y = ix2 r k := ⟨y 0, y 1, eq_ix2 y⟩
  exact x_at m c t r k

/-- The scratch of the reordered input, after every point. -/
theorem scratch_held (t : Fin cfg0.N) : (outsAt0 m c t.val t.isLt).2 = xMat (xArr m c) := by
  refine (Pipeline.eq_of_write_hold (fun n h => (outsAt0 m c n h).2) 29 (fun _ => xMat (xArr m c)) ?_ ?_ t)
  · intro t h
    show (outsAt0 m c t.val t.isLt).2 = _
    rw [outsAt0_A m c t h]
    dsimp only
    rw [scratch_first, x_block]
  · intro t h
    show (outsAt0 m c t.val t.isLt).2 = _
    rw [outsAt0_B m c t h]
    rfl

/-- The block of the result after every point. -/
theorem block_left (t : Fin cfg0.N) :
    (outsAt0 m c t.val t.isLt).1 = yMat (iblk m c 1 t) (iblk m c 2 t) (iblk m c 3 t) (xMat (xArr m c)) := by
  by_cases h : t.val % 29 = 0
  · rw [outsAt0_A m c t h]
    dsimp only
    rw [out_first, x_block]
  · rw [outsAt0_B m c t h]
    dsimp only
    rw [out_later, scratch_held m c ⟨t.val - 1, Nat.lt_of_le_of_lt (Nat.sub_le _ _) t.isLt⟩]

/-- The linear layer of the kernel's arguments. -/
def kernelLinear (r : Fin 256) (n : Fin 7424) : EReal :=
  linear (fun r k => m ((c : Thread nD τ).loc main_arg0) (ix3 r (0 : Fin 1) k))
    (fun n J p => m ((c : Thread nD τ).loc main_arg1) (ix3 n J p))
    (fun n l => m ((c : Thread nD τ).loc main_arg3) (ix2 n l))
    (fun n => m ((c : Thread nD τ).loc main_arg2) (ix1 n)) r n

/-- A point's block holds the linear layer of its rows of the weights. -/
theorem block_at (t : Fin cfg0.N) (r : Fin 256) (q : Fin 256) :
    (outsAt0 m c t.val t.isLt).1 (ix2 r q) = kernelLinear m c r ⟨256 * t.val + q.val, row_lt t q⟩ := by
  rw [block_left]
  unfold kernelLinear linear yMat
  refine congrArg₂ (· * ·) ?_ (s_at m c t q)
  refine Eq.trans ?_ (sum_reordered _)
  refine Finset.sum_congr rfl fun k _ => ?_
  rw [mul_comm]
  refine congrArg₂ (· * ·) ?_ ?_
  · show m ((c : Thread nD τ).loc main_arg0) (ix3 r (0 : Fin 1) _) = m ((c : Thread nD τ).loc main_arg0) (ix3 r (0 : Fin 1) _)
    congr 2
    apply Fin.ext
    show 4 * (128 * (k.val / 512) + k.val % 512 % 128) + k.val % 512 / 128
      = 4 * (128 * (k.val / 512) + k.val % 128) + k.val % 512 / 128
    omega
  · show wVal _ _ q _ _ = weight _ _ _
    unfold wVal gMat weight
    rw [w_at, w_at, w_at, g_at]
    exact scaled _ _

/-- The result array is the linear layer. -/
theorem result_at (r : Fin 256) (n : Fin 7424) : Value.G4 m c (ix2 r n) = kernelLinear m c r n := by
  have hp : Value.pt4Of (ix2 r n) = n.val / 256 := by
    show 29 * (r.val / 256 - 0) + 1 * (n.val / 256 - 0) = n.val / 256
    omega
  have hN : n.val / 256 < cfg0.N := lt_of_lt_of_eq (by omega) N_0.symm
  unfold Value.G4
  rw [dif_pos (by rw [hp]; exact hN), Value.fold0_congr m c _ _ (n.val / 256) (by omega) hp, ← Value.outsAt0_sweep m c _ hN]
  have hl : Value.loc4Of (ix2 r n) = ix2 (⟨r.val % 256, by omega⟩ : Fin 256) (⟨n.val % 256, by omega⟩ : Fin 256) := by
    funext a
    match a with
    | ⟨0, _⟩ => rfl
    | ⟨1, _⟩ => rfl
  rw [hl, block_at m c ⟨n.val / 256, hN⟩]
  congr 1
  · exact Fin.ext (by show r.val % 256 = r.val; omega)
  · exact Fin.ext (by show 256 * (n.val / 256) + n.val % 256 = n.val; omega)

end Cert.KernelIdeal.Val
-- ==== Proof.RefResult.lean ====
/-
  The reference's result array, index by index, from its four arguments.
-/
module

public import proofs.«01_k».proof.Proof.Equation
public import proofs.«01_k».proof.Proof.Gen.ReferenceIdeal.Run
public import Idealize.ShloMosaic.Lib.Pipeline.ValueKit

@[expose] public section

set_option maxRecDepth 16384

noncomputable section

namespace Cert.ReferenceIdeal.Val

open Idealize.ShloMosaic Idealize.ShloMosaic.TcCoe Cert.ReferenceIdeal Cert.ReferenceIdeal.Facts Cert.ReferenceIdeal.Gen Cert.ReferenceIdeal.Value Cert.Fp6

variable (V0 : Valuation τ sig (Elt Ideal))

/-- One weight byte, widened. -/
def byteInt (n : Fin 7424) (J : Fin 2048) (p : Fin 3) : BitVec 32 :=
  ((V0 (Proc.devRef .tc main_arg1)) (ix3 n J p) : BitVec 8).setWidth 32

theorem byte0_at (n : Fin 7424) (J : Fin 2048) : res_main_v9 V0 (ix2 n J) = byteInt V0 n J 0 := by
  unfold res_main_v9 res_main_v7 byteInt
  pointwise

theorem byte1_at (n : Fin 7424) (J : Fin 2048) : res_main_v11 V0 (ix2 n J) = byteInt V0 n J 1 := by
  unfold res_main_v11 res_main_v7 byteInt
  pointwise

theorem byte2_at (n : Fin 7424) (J : Fin 2048) : res_main_v13 V0 (ix2 n J) = byteInt V0 n J 2 := by
  unfold res_main_v13 res_main_v7 byteInt
  pointwise

/-- The codes, as widened integers. -/
def codeAt (n : Fin 7424) (J : Fin 2048) (i : Fin 4) : BitVec 32 :=
  codeInt i (byteInt V0 n J 0) (byteInt V0 n J 1) (byteInt V0 n J 2)

theorem code0_at (n : Fin 7424) (J : Fin 2048) : res_main_v15 V0 (ix2 n J) = codeAt V0 n J 0 := by
  unfold res_main_v15 codeAt codeInt
  pointwise [byte0_at]
  rfl

theorem code1_at (n : Fin 7424) (J : Fin 2048) : res_main_v22 V0 (ix2 n J) = codeAt V0 n J 1 := by
  unfold res_main_v22 codeAt codeInt
  pointwise [byte0_at, byte1_at]
  rfl

theorem code2_at (n : Fin 7424) (J : Fin 2048) : res_main_v29 V0 (ix2 n J) = codeAt V0 n J 2 := by
  unfold res_main_v29 codeAt codeInt
  pointwise [byte1_at, byte2_at]
  rfl

theorem code3_at (n : Fin 7424) (J : Fin 2048) : res_main_v31 V0 (ix2 n J) = codeAt V0 n J 3 := by
  unfold res_main_v31 codeAt codeInt
  pointwise [byte2_at]
  rfl

/-- The group scales, one per triple. -/
theorem scale_at (n : Fin 7424) (J : Fin 2048) :
    res_main_v6 V0 (ix2 n J) = groupScale ((V0 (Proc.devRef .tc main_arg3)) (ix2 n (⟨J.val / 32, by omega⟩ : Fin 64))) := by
  unfold res_main_v6 groupScale
  pointwise

/-- The constant array of an integer. -/
abbrev splat (k : BitVec 32) : IVec S7424x2048 32 := broadcastInDim S7424x2048 ![] bcast_S_S7424x2048 (constantI S_ 32 k)

/-- The magnitudes of an array of codes, in sixteenths. -/
abbrev magOf (v : IVec S7424x2048 32) : IVec S7424x2048 32 :=
  select (cmpi .eq (andi (Host.shrsi v (splat 2#32)) (splat 7#32)) (splat 0#32)) (andi v (splat 3#32))
    (Host.shli (addi (splat 4#32) (andi v (splat 3#32)))
      (maxsi (subi (andi (Host.shrsi v (splat 2#32)) (splat 7#32)) (splat 1#32)) (splat 0#32)))

/-- The weights of one field: the codes' signed values, scaled. -/
abbrev fieldW (v : IVec S7424x2048 32) : FVec Ideal S7424x2048 .bf16 :=
  mulf (sitofp .bf16 (select (cmpi .eq (Host.shrsi v (splat 5#32)) (splat 1#32)) (negi (magOf v)) (magOf v))) (res_main_v6 V0)

theorem fieldW_at (v : IVec S7424x2048 32) (n : Fin 7424) (J : Fin 2048) :
    fieldW V0 v (ix2 n J) = ((((fp6Int (v (ix2 n J))).toInt : ℝ)) : EReal) * res_main_v6 V0 (ix2 n J) := by
  unfold fp6Int magInt
  pointwise
  rfl

theorem field_weight (v : IVec S7424x2048 32) (i : Fin 4) (n : Fin 7424) (J : Fin 2048) (hv : v (ix2 n J) = codeAt V0 n J i) :
    fieldW V0 v (ix2 n J) = weight (fun p => (V0 (Proc.devRef .tc main_arg1)) (ix3 n J p))
      ((V0 (Proc.devRef .tc main_arg3)) (ix2 n (⟨J.val / 32, by omega⟩ : Fin 64))) i := by
  rw [fieldW_at, scale_at, hv]
  unfold codeAt byteInt weight
  rw [codeInt_eq, fp6Int_eq]

/-- The four fields' weights, stacked. -/
abbrev weights : FVec Ideal S7424x4x2048 .bf16 :=
  concatenate S7424x4x2048 1
    [⟨S7424x1x2048, broadcastInDim S7424x1x2048 ![0, 2] bcast_S7424x2048_S7424x1x2048_0_2 (fieldW V0 (res_main_v15 V0))⟩,
      ⟨S7424x1x2048, broadcastInDim S7424x1x2048 ![0, 2] bcast_S7424x2048_S7424x1x2048_0_2 (fieldW V0 (res_main_v22 V0))⟩,
      ⟨S7424x1x2048, broadcastInDim S7424x1x2048 ![0, 2] bcast_S7424x2048_S7424x1x2048_0_2 (fieldW V0 (res_main_v29 V0))⟩,
      ⟨S7424x1x2048, broadcastInDim S7424x1x2048 ![0, 2] bcast_S7424x2048_S7424x1x2048_0_2 (fieldW V0 (res_main_v31 V0))⟩]
    concatenates_S7424x1x2048_S7424x1x2048_S7424x1x2048_S7424x1x2048_S7424x4x2048_d1

theorem stacked_at (f : FVec Ideal S7424x2048 .bf16) (n : Fin 7424) (J : Fin 2048) :
    broadcastInDim S7424x1x2048 ![0, 2] bcast_S7424x2048_S7424x1x2048_0_2 f (ix3 n (0 : Fin 1) J) = f (ix2 n J) := by
  pointwise

theorem weights_at (n : Fin 7424) (i : Fin 4) (J : Fin 2048) :
    weights V0 (ix3 n i J) = weight (fun p => (V0 (Proc.devRef .tc main_arg1)) (ix3 n J p))
      ((V0 (Proc.devRef .tc main_arg3)) (ix2 n (⟨J.val / 32, by omega⟩ : Fin 64))) i := by
  match i with
  | 0 =>
    rw [← field_weight V0 (res_main_v15 V0) 0 n J (code0_at V0 n J)]
    unfold weights
    generalize fieldW V0 (res_main_v15 V0) = f0
    generalize fieldW V0 (res_main_v22 V0) = f1
    generalize fieldW V0 (res_main_v29 V0) = f2
    generalize fieldW V0 (res_main_v31 V0) = f3
    pointwise
  | 1 =>
    rw [← field_weight V0 (res_main_v22 V0) 1 n J (code1_at V0 n J)]
    unfold weights
    generalize fieldW V0 (res_main_v15 V0) = f0
    generalize fieldW V0 (res_main_v22 V0) = f1
    generalize fieldW V0 (res_main_v29 V0) = f2
    generalize fieldW V0 (res_main_v31 V0) = f3
    pointwise
  | 2 =>
    rw [← field_weight V0 (res_main_v29 V0) 2 n J (code2_at V0 n J)]
    unfold weights
    generalize fieldW V0 (res_main_v15 V0) = f0
    generalize fieldW V0 (res_main_v22 V0) = f1
    generalize fieldW V0 (res_main_v29 V0) = f2
    generalize fieldW V0 (res_main_v31 V0) = f3
    pointwise
  | 3 =>
    rw [← field_weight V0 (res_main_v31 V0) 3 n J (code3_at V0 n J)]
    unfold weights
    generalize fieldW V0 (res_main_v15 V0) = f0
    generalize fieldW V0 (res_main_v22 V0) = f1
    generalize fieldW V0 (res_main_v29 V0) = f2
    generalize fieldW V0 (res_main_v31 V0) = f3
    pointwise

/-- The input, its columns split by the field of the weight they meet. -/
abbrev inputs : FVec Ideal S256x4x2048 .bf16 :=
  transpose S256x4x2048 [0, 2, 1] (shapeCast _ (V0 (Proc.devRef .tc main_arg0)) shapeCasts_S256x1x8192_S256x2048x4)
    transposes_S256x2048x4_S256x4x2048_0_2_1

theorem inputs_at (r : Fin 256) (i : Fin 4) (J : Fin 2048) :
    inputs V0 (ix3 r i J)
      = (V0 (Proc.devRef .tc main_arg0)) (ix3 r (0 : Fin 1) (⟨4 * J.val + i.val, by omega⟩ : Fin 8192)) := by
  unfold inputs
  pointwise
  refine congrArg (fun k : Fin 8192 => (V0 (Proc.devRef .tc main_arg0)) (ix3 r (0 : Fin 1) k)) (Fin.ext ?_)
  show J.val * 4 + i.val = 4 * J.val + i.val
  omega

/-- The reference's result. -/
abbrev refArr : FVec Ideal S256x7424 .bf16 :=
  truncf .bf16 (mulf (Host.dotGeneral dot_S256x4x2048_S7424x4x2048_S256x7424_12_12_0_0_n_n none (inputs V0) (weights V0))
    (broadcastInDim S256x7424 ![0, 1] bcast_S1x7424_S256x7424_0_1
      (broadcastInDim S1x7424 ![1] bcast_S7424_S1x7424_1 (V0 (Proc.devRef .tc main_arg2))))) bitsLt_bf16_f32

theorem dot_at (x : FVec Ideal S256x4x2048 .bf16) (w : FVec Ideal S7424x4x2048 .bf16) (s : FVec Ideal S7424 .f32)
    (r : Fin 256) (n : Fin 7424) :
    truncf .bf16 (mulf (Host.dotGeneral dot_S256x4x2048_S7424x4x2048_S256x7424_12_12_0_0_n_n none x w)
      (broadcastInDim S256x7424 ![0, 1] bcast_S1x7424_S256x7424_0_1 (broadcastInDim S1x7424 ![1] bcast_S7424_S1x7424_1 s)))
      bitsLt_bf16_f32 (ix2 r n)
    = (∑ i : Fin 4, ∑ J : Fin 2048, x (ix3 r i J) * w (ix3 n i J)) * s (ix1 n) := by
  pointwise

/-- The result array is the linear layer. -/
theorem result_at (r : Fin 256) (n : Fin 7424) :
    refArr V0 (ix2 r n) = linear (fun r k => (V0 (Proc.devRef .tc main_arg0)) (ix3 r (0 : Fin 1) k))
      (fun n J p => (V0 (Proc.devRef .tc main_arg1)) (ix3 n J p))
      (fun n l => (V0 (Proc.devRef .tc main_arg3)) (ix2 n l))
      (fun n => (V0 (Proc.devRef .tc main_arg2)) (ix1 n)) r n := by
  unfold refArr linear
  rw [dot_at]
  refine congrArg₂ (· * ·) ?_ rfl
  refine Finset.sum_congr rfl fun i _ => Finset.sum_congr rfl fun J _ => ?_
  rw [inputs_at, weights_at]

end Cert.ReferenceIdeal.Val
-- ==== Proof.lean ====
/-
  The proof of `Cert.Claim`: the kernel, its reading over the extended reals and the reference's run to their ends and
  leave their arguments unchanged; nothing was rewritten between the kernel and its reading; and over the extended reals
  the kernel's array is the reference's. Both are the linear layer `Cert.Fp6.linear` of the arguments
  (`Proof/KernelResult.lean`, `Proof/RefResult.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelResult
public import proofs.«01_k».proof.Proof.RefResult
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- On equal arguments the reference's array is the kernel's. -/
theorem arrays_eq
    (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0)
      = m ((c.tc : Thread Cert.KernelIdeal.nD Cert.KernelIdeal.τ).loc Cert.KernelIdeal.main_arg0))
    (h1 : V0 (Proc.devRef .tc Cert.ReferenceIdeal.main_arg1)
      = m ((c.tc : Thread Cert.KernelIdeal.nD Cert.KernelIdeal.τ).loc Cert.KernelIdeal.main_arg1))
    (h2 : V0 (Proc.devRef .tc Cert.ReferenceIdeal.main_arg2)
      = m ((c.tc : Thread Cert.KernelIdeal.nD Cert.KernelIdeal.τ).loc Cert.KernelIdeal.main_arg2))
    (h3 : V0 (Proc.devRef .tc Cert.ReferenceIdeal.main_arg3)
      = m ((c.tc : Thread Cert.KernelIdeal.nD Cert.KernelIdeal.τ).loc Cert.KernelIdeal.main_arg3)) :
    Cert.ReferenceIdeal.Val.refArr V0 = Cert.KernelIdeal.Value.G4 m c := by
  funext y
  obtain ⟨r, n, rfl⟩ : ∃ (r : Fin 256) (n : Fin 7424), y = ix2 r n := ⟨y 0, y 1, eq_ix2 y⟩
  rw [Cert.ReferenceIdeal.Val.result_at]
  refine Eq.trans ?_ (Cert.KernelIdeal.Val.result_at m c r n).symm
  unfold Cert.KernelIdeal.Val.kernelLinear
  rw [h0, h1, h2, h3]

theorem algebraic : Cert.algebraic_KernelIdeal_ReferenceIdeal := by
  intro m g m' g' _ h
  refine ⟨fun c => Cert.KernelIdeal.Value.G4 m c, Cert.KernelIdeal.Value.run m g, ?_⟩
  refine (θ_run Cert.ReferenceIdeal.defs _ _).mono (fun r hr c => ?_) (Cert.ReferenceIdeal.Value.run m' g')
  obtain ⟨e, k⟩ := hr c
  exact ⟨e.trans (arrays_eq m (StableHlo.launchContents m' c) c (h c).1 (h c).2.1 (h c).2.2.1 (h c).2.2.2), k⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => (θ_run Cert.ReferenceIdeal.defs _ _).mono
      (fun r h => ⟨fun c => (h c).2, sem_eq_zero_of_no_sems rfl r.2⟩) (Cert.ReferenceIdeal.Value.run m ρ),
    trivial, algebraic⟩

end Cert.Proof

end
